-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Experts [hPre_tables_ok : Cert.Pre_tables_ok.Facts] (m : (ℓ : Loc Cert.Experts.nD Cert.Experts.τ Cert.Experts.sig) → Buf (Elt Bits) ℓ) : Prop :=
  ∀ c : Dev Cert.Experts.nD,
    (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tables_ok [hPre_tables_ok : Cert.Pre_tables_ok.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Combine [hPre_rows_ok : Cert.Pre_rows_ok.Facts] (m : (ℓ : Loc Cert.Combine.nD Cert.Combine.τ Cert.Combine.sig) → Buf (Elt Bits) ℓ) : Prop :=
  ∀ c : Dev Cert.Combine.nD,
    (Cert.Pre_rows_ok.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_rows_ok : Cert.Pre_rows_ok.Facts] (m : (ℓ : Loc Cert.CombineIdeal.nD Cert.CombineIdeal.τ Cert.CombineIdeal.sig) → Buf (Elt Ideal) ℓ) : Prop :=
  ∀ c : Dev Cert.CombineIdeal.nD,
    (Cert.Pre_rows_ok.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_rows_ok [hPre_rows_ok : Cert.Pre_rows_ok.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_ok.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Experts [hExperts : Cert.Experts.Facts] [hPre_tables_ok : Cert.Pre_tables_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_tables_ok [hExpertsRefIdeal : Cert.ExpertsRefIdeal.Facts] [hPre_tables_ok : Cert.Pre_tables_ok.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tables_ok m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Combine [hCombine : Cert.Combine.Facts] [hPre_rows_ok : Cert.Pre_rows_ok.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_CombineRefIdeal_pre_rows_ok [hCombineRefIdeal : Cert.CombineRefIdeal.Facts] [hPre_rows_ok : Cert.Pre_rows_ok.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_rows_ok m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v4_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v4_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v54) = v0 c
          ∧ r.2.mem ((c.tc : Thread Cert.AttnRefIdeal.nD Cert.AttnRefIdeal.τ).loc Cert.AttnRefIdeal.main_v55) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)) →
    ∃ (v0 : (c : Dev Cert.EntryIdeal.nD) → Buf (Elt Ideal) ((c.tc : Thread Cert.EntryIdeal.nD Cert.EntryIdeal.τ).loc Cert.EntryIdeal.main_v3_0)) (v1 : (c : Dev Cert.EntryIdeal.nD) → Buf (Elt Ideal) ((c.tc : Thread Cert.EntryIdeal.nD Cert.EntryIdeal.τ).loc Cert.EntryIdeal.main_v3_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v3_0) = v0 c
          ∧ r.2.mem ((c.tc : Thread Cert.EntryIdeal.nD Cert.EntryIdeal.τ).loc Cert.EntryIdeal.main_v3_1) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v24) = v0 c
          ∧ r.2.mem ((c.tc : Thread Cert.EntryRefIdeal.nD Cert.EntryRefIdeal.τ).loc Cert.EntryRefIdeal.main_v25) = v1 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v59) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Combine_CombineIdeal : Prop :=
  True

def algebraic_CombineIdeal_CombineRefIdeal [hCombineIdeal : Cert.CombineIdeal.Facts] [hCombineRefIdeal : Cert.CombineRefIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2_0)) (v1 : (c : Dev Cert.CombineIdeal.nD) → Buf (Elt Ideal) ((c.tc : Thread Cert.CombineIdeal.nD Cert.CombineIdeal.τ).loc Cert.CombineIdeal.main_v2_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2_0) = v0 c
          ∧ r.2.mem ((c.tc : Thread Cert.CombineIdeal.nD Cert.CombineIdeal.τ).loc Cert.CombineIdeal.main_v2_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v39) = v0 c
          ∧ r.2.mem ((c.tc : Thread Cert.CombineRefIdeal.nD Cert.CombineRefIdeal.τ).loc Cert.CombineRefIdeal.main_v40) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hEntry : Cert.Entry.Facts) (hEntryIdeal : Cert.EntryIdeal.Facts) (hEntryRefIdeal : Cert.EntryRefIdeal.Facts) (hKv : Cert.Kv.Facts) (hKvIdeal : Cert.KvIdeal.Facts) (hKvRefIdeal : Cert.KvRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hPre_tables_ok : Cert.Pre_tables_ok.Facts) (hPre_rows_ok : Cert.Pre_rows_ok.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Entry (hEntry := hEntry)
    ∧ quiescent_EntryIdeal (hEntryIdeal := hEntryIdeal)
    ∧ quiescent_EntryRefIdeal (hEntryRefIdeal := hEntryRefIdeal)
    ∧ quiescent_Kv (hKv := hKv)
    ∧ quiescent_KvIdeal (hKvIdeal := hKvIdeal)
    ∧ quiescent_KvRefIdeal (hKvRefIdeal := hKvRefIdeal)
    ∧ quiescent_Experts (hExperts := hExperts) (hPre_tables_ok := hPre_tables_ok)
    ∧ quiescent_ExpertsIdeal (hExpertsIdeal := hExpertsIdeal) (hPre_tables_ok := hPre_tables_ok)
    ∧ quiescent_ExpertsRefIdeal (hExpertsRefIdeal := hExpertsRefIdeal)
    ∧ quiescent_ExpertsRefIdeal_pre_tables_ok (hExpertsRefIdeal := hExpertsRefIdeal) (hPre_tables_ok := hPre_tables_ok)
    ∧ quiescent_Combine (hCombine := hCombine) (hPre_rows_ok := hPre_rows_ok)
    ∧ quiescent_CombineIdeal (hCombineIdeal := hCombineIdeal) (hPre_rows_ok := hPre_rows_ok)
    ∧ quiescent_CombineRefIdeal (hCombineRefIdeal := hCombineRefIdeal)
    ∧ quiescent_CombineRefIdeal_pre_rows_ok (hCombineRefIdeal := hCombineRefIdeal) (hPre_rows_ok := hPre_rows_ok)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Entry_EntryIdeal
    ∧ algebraic_EntryIdeal_EntryRefIdeal (hEntryIdeal := hEntryIdeal) (hEntryRefIdeal := hEntryRefIdeal)
    ∧ preserves_Kv_KvIdeal
    ∧ algebraic_KvIdeal_KvRefIdeal (hKvIdeal := hKvIdeal) (hKvRefIdeal := hKvRefIdeal)
    ∧ preserves_Experts_ExpertsIdeal
    ∧ algebraic_ExpertsIdeal_ExpertsRefIdeal (hExpertsIdeal := hExpertsIdeal) (hExpertsRefIdeal := hExpertsRefIdeal) (hPre_tables_ok := hPre_tables_ok)
    ∧ preserves_Combine_CombineIdeal
    ∧ algebraic_CombineIdeal_CombineRefIdeal (hCombineIdeal := hCombineIdeal) (hCombineRefIdeal := hCombineRefIdeal) (hPre_rows_ok := hPre_rows_ok)
-- ==== Pre_rows_ok.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S1024 : Shape := ⟨1, ![1024]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S139264x1024 .f32) (main_arg1 : IVec S131072 32) (main_arg2 : FVec F S32768x128 .f32) (main_arg3 : FVec F S32768x1024 .f32) (main_arg4 : FVec F S1024 .f32) (main_arg5 : FVec F S1024 .f32) : IVec S_ 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 1 := constantI S_ 1 1#1
  let main_v2 : IVec S_ 1 := (fun x v => Host.reduce IntOp.andi x v reducesTo_S131072_S_d0 h_S_) main_v1 main_c_0
  let main_c_1 : IVec S_ 32 := constantI S_ 32 139264#32
  let main_v3 : IVec S131072 32 := broadcastInDim S131072 ![] bcast_S_S131072 main_c_1
  let main_v4 : IVec S131072 1 := cmpi .slt main_arg1 main_v3
  let main_c_2 : IVec S_ 1 := constantI S_ 1 1#1
  let main_v5 : IVec S_ 1 := (fun x v => Host.reduce IntOp.andi x v reducesTo_S131072_S_d0 h_S_) main_v4 main_c_2
  let main_v6 : IVec S_ 1 := andi main_v2 main_v5
  main_v6
-- ==== Pre_tables_ok.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : IVec S544 32) (main_arg1 : IVec S1 32) (main_arg2 : FVec F S139264x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 1 := constantI S_ 1 1#1
  let main_v2 : IVec S_ 1 := (fun x v => Host.reduce IntOp.andi x v reducesTo_S544_S_d0 h_S_) main_v1 main_c_0
  let main_c_1 : IVec S_ 32 := constantI S_ 32 32#32
  let main_v3 : IVec S544 32 := broadcastInDim S544 ![] bcast_S_S544 main_c_1
  let main_v4 : IVec S544 1 := cmpi .slt main_arg0 main_v3
  let main_c_2 : IVec S_ 1 := constantI S_ 1 1#1
  let main_v5 : IVec S_ 1 := (fun x v => Host.reduce IntOp.andi x v reducesTo_S544_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  main_v9
-- ==== Attn.lean ====
abbrev S32768x1024 : Shape := ⟨2, ![32768, 1024]⟩
abbrev S2048x2048 : Shape := ⟨2, ![2048, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2048x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S32768x1024 : Shape := ⟨2, ![32768, 1024]⟩
abbrev S2048x2048 : Shape := ⟨2, ![2048, 2048]⟩
abbrev S1024x1024 : Shape := ⟨2, ![1024, 1024]⟩
abbrev S1024 : Shape := ⟨1, ![1024]⟩
abbrev S8x4096x1024 : Shape := ⟨3, ![8, 4096, 1024]⟩
abbrev S8x4096x4x256 : Shape := ⟨4, ![8, 4096, 4, 256]⟩
abbrev S2048x1024 : Shape := ⟨2, ![2048, 1024]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768 : Shape := ⟨1, ![32768]⟩
abbrev S32768x1 : Shape := ⟨2, ![32768, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S2048x2048, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S8x4096x1024, .f32⟩
  | .hbm, ⟨9, _⟩ => ⟨S2048x2048, .f32⟩
  | .hbm, ⟨10, _⟩ => ⟨S8x4096x1024, .f32⟩
  | .hbm, ⟨11, _⟩ => ⟨S8x4096x4x256, .f32⟩
  | .hbm, ⟨12, _⟩ => ⟨S2048x1024, .f32⟩
  | .hbm, ⟨13, _⟩ => ⟨S8x256x4x256, .f32⟩
  | .hbm, ⟨14, _⟩ => ⟨S2048x1024, .f32⟩
  | .hbm, ⟨15, _⟩ => ⟨S8x256x4x256, .f32⟩
  | .hbm, ⟨16, _⟩ => ⟨S8x4x4096x256, .f32⟩
  | .hbm, ⟨17, _⟩ => ⟨S_, .f32⟩
  | .hbm, ⟨18, _⟩ => ⟨S8x4x4096x256, .f32⟩
  | .hbm, ⟨19, _⟩ => ⟨S8x4x4096x256, .f32⟩
  | .hbm, ⟨20, _⟩ => ⟨S_, .f32⟩
  | .hbm, ⟨21, _⟩ => ⟨S8x4x4096, .f32⟩
  | .hbm, ⟨22, _⟩ => ⟨S_, .f32⟩
  | .hbm, ⟨23, _⟩ => ⟨S8x4x4096, .f32⟩
  | .hbm, ⟨24, _⟩ => ⟨S8x4x4096, .f32⟩
  | .hbm, ⟨25, _⟩ => ⟨S8x4x4096x1, .f32⟩
  | .hbm, ⟨26, _⟩ => ⟨S8x4x4096x256, .f32⟩
  | .hbm, ⟨27, _⟩ => ⟨S8x4x4096x256, .f32⟩
  | .hbm, ⟨28, _⟩ => ⟨S8x4x4096x256, .f32⟩
  | .hbm, ⟨29, _⟩ => ⟨S_, .f32⟩
  | .hbm, ⟨30, _⟩ => ⟨S8x4x4096, .f32⟩
  | .hbm, ⟨31, _⟩ => ⟨S8x4x4096x1, .f32⟩
  | .hbm, ⟨32, _⟩ => ⟨S8x4x4096x256, .f32⟩
  | .hbm, ⟨33, _⟩ => ⟨S8x4x4096x256, .f32⟩
  | .hbm, ⟨34, _⟩ => ⟨S8x4x256x4096, .f32⟩
  | .hbm, ⟨35, _⟩ => ⟨S8x4096x4x256, .f32⟩
  | .hbm, ⟨36, _⟩ => ⟨S8x4096x1024, .f32⟩
  | .hbm, ⟨37, _⟩ => ⟨S8x4096x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proj.lean ====
abbrev S32768x1024 : Shape := ⟨2, ![32768, 1024]⟩
abbrev S1024x7184 : Shape := ⟨2, ![1024, 7184]⟩
abbrev S1024x3072 : Shape := ⟨2, ![1024, 3072]⟩
abbrev S1024x4096 : Shape := ⟨2, ![1024, 4096]⟩
abbrev S1024x7168 : Shape := ⟨2, ![1024, 7168]⟩
abbrev S32768x7168 : Shape := ⟨2, ![32768, 7168]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x7184, .f32⟩
  | .hbm, ⟨2, _⟩ => ⟨S1024x3072, .f32⟩
  | .hbm, ⟨3, _⟩ => ⟨S1024x4096, .f32⟩
  | .hbm, ⟨4, _⟩ => ⟨S1024x7168, .f32⟩
  | .hbm, ⟨5, _⟩ => ⟨S1024x7168, .bf16⟩
  | .hbm, ⟨6, _⟩ => ⟨S32768x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S32768x1024 : Shape := ⟨2, ![32768, 1024]⟩
abbrev S1024x7184 : Shape := ⟨2, ![1024, 7184]⟩
abbrev S32768x7184 : Shape := ⟨2, ![32768, 7184]⟩
abbrev S32768x3072 : Shape := ⟨2, ![32768, 3072]⟩
abbrev S32768x4096 : Shape := ⟨2, ![32768, 4096]⟩
abbrev S32768x7168 : Shape := ⟨2, ![32768, 7168]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x7184, .f32⟩
  | .hbm, ⟨2, _⟩ => ⟨S32768x1024, .f32⟩
  | .hbm, ⟨3, _⟩ => ⟨S32768x7184, .f32⟩
  | .hbm, ⟨4, _⟩ => ⟨S32768x3072, .f32⟩
  | .hbm, ⟨5, _⟩ => ⟨S32768x4096, .f32⟩
  | .hbm, ⟨6, _⟩ => ⟨S32768x7168, .f32⟩
  | .hbm, ⟨7, _⟩ => ⟨S32768x7168, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge.lean ====
abbrev S32768x1024 : Shape := ⟨2, ![32768, 1024]⟩
abbrev S32768x7168 : Shape := ⟨2, ![32768, 7168]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .hbm, ⟨15, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S32768x1024 : Shape := ⟨2, ![32768, 1024]⟩
abbrev S32768x7168 : Shape := ⟨2, ![32768, 7168]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S32768x7168, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Entry.lean ====
abbrev S8x4096x1024 : Shape := ⟨3, ![8, 4096, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EntryRefIdeal.lean ====
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S32768x1024, .f32⟩
  | .hbm, ⟨33, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kv.lean ====
abbrev S8x256x1024 : Shape := ⟨3, ![8, 256, 1024]⟩
abbrev S1024x1024 : Shape := ⟨2, ![1024, 1024]⟩
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S2048x1024, .bf16⟩
  | .hbm, ⟨5, _⟩ => ⟨S1024x2048, .f32⟩
  | .hbm, ⟨6, _⟩ => ⟨S1024x2048, .bf16⟩
  | .hbm, ⟨7, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8x256x1024 : Shape := ⟨3, ![8, 256, 1024]⟩
abbrev S1024x1024 : Shape := ⟨2, ![1024, 1024]⟩
abbrev S2048x1024 : Shape := ⟨2, ![2048, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S8x256x1024, .f32⟩
  | .hbm, ⟨4, _⟩ => ⟨S2048x1024, .f32⟩
  | .hbm, ⟨5, _⟩ => ⟨S8x256x1024, .f32⟩
  | .hbm, ⟨6, _⟩ => ⟨S2048x1024, .f32⟩
  | .hbm, ⟨7, _⟩ => ⟨S2048x2048, .f32⟩
  | .hbm, ⟨8, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Experts.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1x2048, .f32⟩
  | .hbm, ⟨7, _⟩ => ⟨S32x1024x1024, .bf16⟩
  | .hbm, ⟨8, _⟩ => ⟨S32x1x1024, .f32⟩
  | .hbm, ⟨9, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S_, .f32⟩
  | .hbm, ⟨32, _⟩ => ⟨S544x256x1024, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S544x256x1024, .f32⟩
  | .hbm, ⟨48, _⟩ => ⟨S_, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S544, .i32⟩
  | .hbm, ⟨83, _⟩ => ⟨S544, .i1⟩
  | .hbm, ⟨84, _⟩ => ⟨S544x1x1, .i1⟩
  | .hbm, ⟨85, _⟩ => ⟨S_, .f32⟩
  | .hbm, ⟨86, _⟩ => ⟨S_, .f32⟩
  | .hbm, ⟨87, _⟩ => ⟨S544x256x1024, .i1⟩
  | .hbm, ⟨88, _⟩ => ⟨S544x256x1024, .f32⟩
  | .hbm, ⟨89, _⟩ => ⟨S544x256x1024, .f32⟩
  | .hbm, ⟨90, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Combine.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S1024 : Shape := ⟨1, ![1024]⟩
abbrev S1x1024 : Shape := ⟨2, ![1, 1024]⟩
abbrev S256x128 : Shape := ⟨2, ![256, 128]⟩
abbrev S256x1024 : Shape := ⟨2, ![256, 1024]⟩
abbrev S4x256x1024 : Shape := ⟨3, ![4, 256, 1024]⟩
abbrev S_ : Shape := ⟨0, ![]⟩
abbrev S1 : Shape := ⟨1, ![1]⟩
abbrev S1x1x1024 : Shape := ⟨3, ![1, 1, 1024]⟩
abbrev S256x1 : Shape := ⟨2, ![256, 1]⟩
abbrev S1x256x1024 : Shape := ⟨3, ![1, 256, 1024]⟩
abbrev S256 : Shape := ⟨1, ![256]⟩

abbrev nBuf : Space → Nat
  | .hbm => 10
  | .vmem => 11
  | .smem => 2
  | _ => 0

abbrev bufTy : (tb : Table) → Fin (tcTables nBuf tb) → BufTy
  | .hbm, ⟨0, _⟩ => ⟨S139264x1024, .f32⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S256x128, .f32⟩
  | .local _ .vmem, ⟨1, _⟩ => ⟨S256x128, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S4x256x1024, .f32⟩
  | .local _ .smem, ⟨0, _⟩ => ⟨S1024, .i32⟩
  | .local _ .smem, ⟨1, _⟩ => ⟨S1024, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg11 : BitVec 32 := Scf.iv c0_i32 c1_i32 k0_t1
  let v61 : Index := Scalar.indexCast arg11
  ![v61.toNat]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let c3_i32 : BitVec 32 := 3#32
  let v60 : BitVec 32 := Scalar.andi arg11 c3_i32
  let c2_i32 : BitVec 32 := 2#32
  let v59 : BitVec 32 := Scalar.shrui arg11 c2_i32
  let c0_i32_31 : BitVec 32 := 0#32
  ![v60.toNat, v59.toNat, 0]
def k0_off3 (v62 : BitVec 32) : Fin 2 → Nat :=
  let c0_i32_32 : BitVec 32 := 0#32
  ![v62.toNat, 0]

def k0_chk1 (v62 : BitVec 32) : Prop :=
  (∀ a, (k0_off3 v62) a + S1x1024.size a ≤ S139264x1024.size a)
theorem k0_off3_inb : ∀ (v62 : BitVec 32) (k0_hw1 : k0_chk1 v62), ∀ a, (k0_off3 v62) a + S1x1024.size a ≤ S139264x1024.size a := fun v62 k0_hw1 => k0_hw1

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def k0_off4 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let v61 : Index := Scalar.indexCast arg11
  ![v61.toNat]
def k0_off5 (k0_t2 : Fin k0_t2_loop.trips) : Fin 3 → Nat :=
  let c0_i32_1 : BitVec 32 := 0#32
  let c1_i32_3 : BitVec 32 := 1#32
  let arg11 : BitVec 32 := Scf.iv c0_i32_1 c1_i32_3 k0_t2
  let c3_i32 : BitVec 32 := 3#32
  let v60 : BitVec 32 := Scalar.andi arg11 c3_i32
  let c2_i32 : BitVec 32 := 2#32
  let v59 : BitVec 32 := Scalar.shrui arg11 c2_i32
  let c0_i32_31 : BitVec 32 := 0#32
  ![v60.toNat, v59.toNat, 0]
def k0_off6 (v62 : BitVec 32) : Fin 2 → Nat :=
  let c0_i32_32 : BitVec 32 := 0#32
  ![v62.toNat, 0]

def k0_chk2 (v62 : BitVec 32) : Prop :=
  (∀ a, (k0_off6 v62) a + S1x1024.size a ≤ S139264x1024.size a)
theorem k0_off6_inb : ∀ (v62 : BitVec 32) (k0_hw2 : k0_chk2 v62), ∀ a, (k0_off6 v62) a + S1x1024.size a ≤ S139264x1024.size a := fun v62 k0_hw2 => k0_hw2

def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S139264x1024 : Shape := ⟨2, ![139264, 1024]⟩
abbrev S131072 : Shape := ⟨1, ![131072]⟩
abbrev S32768x128 : Shape := ⟨2, ![32768, 128]⟩
abbrev S32768x1024 : Shape := ⟨2, ![32768, 1024]⟩
abbrev S1024 : Shape := ⟨1, ![1024]⟩
abbrev S32768x4 : Shape := ⟨2, ![32768, 4]⟩
abbrev S_ : Shape := ⟨0, ![]⟩
abbrev S32768x4x1 : Shape := ⟨3, ![32768, 4, 1]⟩
abbrev S32768x4x1024 : Shape := ⟨3, ![32768, 4, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S131072, .i32⟩
  | .hbm, ⟨2, _⟩ => ⟨S32768x128, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x4, .i32⟩
  | .hbm, ⟨7, _⟩ => ⟨S_, .i32⟩
  | .hbm, ⟨8, _⟩ => ⟨S32768x4, .i32⟩
  | .hbm, ⟨9, _⟩ => ⟨S32768x4, .i1⟩
  | .hbm, ⟨10, _⟩ => ⟨S_, .i32⟩
  | .hbm, ⟨11, _⟩ => ⟨S32768x4, .i32⟩
  | .hbm, ⟨12, _⟩ => ⟨S32768x4, .i32⟩
  | .hbm, ⟨13, _⟩ => ⟨S32768x4, .i32⟩
  | .hbm, ⟨14, _⟩ => ⟨S32768x4x1, .i32⟩
  | .hbm, ⟨15, _⟩ => ⟨S32768x4x1024, .f32⟩
  | .hbm, ⟨16, _⟩ => ⟨S32768x4, .f32⟩
  | .hbm, ⟨17, _⟩ => ⟨S32768x4x1, .f32⟩
  | .hbm, ⟨18, _⟩ => ⟨S32768x4x1024, .f32⟩
  | .hbm, ⟨19, _⟩ => ⟨S32768x4x1024, .f32⟩
  | .hbm, ⟨20, _⟩ => ⟨S_, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Rows.lean ====
/- Row by row closed forms over the extended reals, shared by the value proofs. -/
module

public import Idealize.ShloMosaic.Lib.Pointwise

@[expose] public section

noncomputable section

namespace Cert.Proof.Rows

open Idealize.ShloMosaic

/-- The mean of a row of 1024, the count being its literal. -/
def mean (t : Fin 1024 → EReal) : EReal := Ideal.div (∑ k, t k) (Ideal.ofBits .f32 0x44800000#32)

/-- The layer norm of a row of 1024 at one column, with its literal ε. -/
def lnorm (t g b : Fin 1024 → EReal) (j : Fin 1024) : EReal :=
  (t j - mean t) * Ideal.rsqrt (mean (fun k => (t k - mean t) * (t k - mean t)) + Ideal.ofBits .f32 0x3727C5AC#32) * g j + b j

/-- The residual sum of the post-norm: the stream scaled by its literal, plus the branch. -/
def resid (x h : EReal) : EReal := Ideal.ofBits .f32 0x3FB504F3#32 * x + h

/-- The logistic function as both programs print it. -/
def sigm (x : EReal) : EReal :=
  Ideal.div 1 (1 + Ideal.exp (-x))

end Cert.Proof.Rows
-- ==== Proof.AttnValue.lean ====
/- The cross-attention's value: both results are one function of the seven arguments, row by row, in the kernel and in
   the reference. -/
module

public import proofs.«01_k».proof.Proof.Gen.AttnIdeal.Value
public import proofs.«01_k».proof.Proof.Gen.AttnRefIdeal.Run
public import proofs.«01_k».proof.Proof.Gen.AttnRefIdeal.Read
public import proofs.«01_k».proof.Proof.Rows
public import proofs.«01_k».proof.Defs

@[expose] public section

set_option maxRecDepth 16384

noncomputable section

namespace Cert.Proof.Attn

open Cert.AttnIdeal Cert.AttnIdeal.Gen Cert.AttnIdeal.Value Idealize.ShloMosaic Idealize.ShloMosaic.TcCoe Idealize.SL.Sem
open Cert.Proof.Rows

theorem hz : (![0, 0] : Fin 2 → Nat) = fun _ => 0 := funext fun a => by fin_cases a <;> rfl

/-- The scores of one row against the memory, for the head whose columns begin at `o`. -/
def score (o : Nat) (ho : o ≤ 768) (q : Fin 1024 → EReal) (kv : Fin 256 → Fin 2048 → EReal) (n : Fin 256) : EReal :=
  (∑ d : Fin 256, q ⟨o + d.val, by omega⟩ * kv n ⟨o + d.val, by omega⟩) * Ideal.ofBits .f32 0x3D800000#32

/-- The largest of 256 scores, folded from the literal that stands for the least value. -/
def top (s : Fin 256 → EReal) : EReal := Finset.fold max (Ideal.ofBits .f32 0xFF800000#32) s Finset.univ

/-- The softmax of 256 scores. -/
def soft (s : Fin 256 → EReal) (n : Fin 256) : EReal :=
  Ideal.div (Ideal.exp (s n - top s)) (∑ n', Ideal.exp (s n' - top s))

/-- The head's output: the weighted sum of the values. -/
def headOut (o : Nat) (ho : o ≤ 768) (q : Fin 1024 → EReal) (kv : Fin 256 → Fin 2048 → EReal) (d : Fin 256) : EReal :=
  ∑ n, soft (score o ho q kv) n * kv n ⟨1024 + o + d.val, by omega⟩

/-- The attention branch of one row at one column: the four heads' outputs through the out-projection. -/
def branch (q : Fin 1024 → EReal) (kv : Fin 256 → Fin 2048 → EReal) (wo : Fin 1024 → Fin 1024 → EReal) (j : Fin 1024) : EReal :=
  ∑ h : Fin 4, ∑ d : Fin 256, headOut (256 * h.val) (by omega) q kv d * wo ⟨256 * h.val + d.val, by omega⟩ j

theorem init_le_top (s : Fin 256 → EReal) : Ideal.ofBits .f32 0xFF800000#32 ≤ top s :=
  (Finset.le_fold_max _).mpr (Or.inl le_rfl)

/-- A sum over 1024 columns, head by head. -/
theorem sum_heads (F : Fin 1024 → EReal) : ∑ l, F l = ∑ h : Fin 4, ∑ d : Fin 256, F ⟨256 * h.val + d.val, by omega⟩ := by
  rw [← Equiv.sum_comp (finProdFinEquiv (m := 4) (n := 256)) F, Fintype.sum_prod_type]
  refine Finset.sum_congr rfl fun h _ => Finset.sum_congr rfl fun d _ => congrArg F (Fin.ext ?_)
  show d.val + 256 * h.val = 256 * h.val + d.val
  omega

/-! ## The kernel's payloads -/

section Payloads
variable (x : Vec Ideal S512x1024 .bf16) (wq : Vec Ideal S1024x1024 .bf16) (kv : Vec Ideal S256x2048 .bf16)
  (q : Vec Ideal S512x1024 .bf16) (y : Fin 512) (d : Fin 256) (j : Fin 1024)

/-- The row of queries. -/
def qrow : Fin 1024 → EReal := fun l => ∑ k : Fin 1024, x (ix2 y k) * wq (ix2 k l)

theorem pay3_apply : k0_pay3 x wq (ix2 y j) = qrow x wq y j := by
  pointwise [k0_pay3, qrow]

theorem pay4_apply : k0_pay4 x wq kv (ix2 y d) = headOut 0 (by omega) (qrow x wq y) (fun n c => kv (ix2 n c)) d := by
  pointwise [k0_pay4, pay3_apply, headOut, soft, top, score]

theorem pay5_apply : k0_pay5 x wq kv (ix2 y d) = headOut 256 (by omega) (qrow x wq y) (fun n c => kv (ix2 n c)) d := by
  pointwise [k0_pay5, pay3_apply, headOut, soft, top, score]

theorem pay6_apply : k0_pay6 x wq (ix2 y d) = qrow x wq y ⟨512 + d.val, by omega⟩ := by
  pointwise [k0_pay6, pay3_apply]

theorem pay7_apply (h0 h1 : Vec Ideal S512x256 .f32) (q2 : Vec Ideal S512x256 .bf16) (xf : Vec Ideal S512x1024 .f32)
    (wo : Vec Ideal S1024x1024 .bf16) (hq : ∀ d : Fin 256, q2 (ix2 y d) = q (ix2 y ⟨512 + d.val, by omega⟩))
    (e0 : ∀ d : Fin 256, h0 (ix2 y d) = headOut 0 (by omega) (fun l => q (ix2 y l)) (fun n c => kv (ix2 n c)) d)
    (e1 : ∀ d : Fin 256, h1 (ix2 y d) = headOut 256 (by omega) (fun l => q (ix2 y l)) (fun n c => kv (ix2 n c)) d) :
    k0_pay7 q kv h0 h1 q2 xf wo (ix2 y j)
      = resid (xf (ix2 y j)) (branch (fun l => q (ix2 y l)) (fun n c => kv (ix2 n c)) (fun k l => wo (ix2 k l)) j) := by
  pointwise [k0_pay7, resid, hq, e0, e1]
  refine congrArg _ ?_
  unfold branch
  rw [sum_heads, Fin.sum_univ_four, Fin.sum_univ_four]
  refine congrArg₂ (· + ·) (congrArg₂ (· + ·) (congrArg₂ (· + ·) ?_ ?_) ?_) ?_ <;>
    refine Finset.sum_congr rfl fun d _ => congrArg₂ (· * ·) ?_ rfl
  · rw [dif_pos (show 256 * (0 : Fin 4).val + d.val < 256 by simp)]
    refine congrArg _ (Fin.ext ?_)
    show 256 * 0 + d.val = d.val
    omega
  · rw [dif_neg (show ¬ 256 * (1 : Fin 4).val + d.val < 256 by simp),
      dif_pos (show 256 * (1 : Fin 4).val + d.val - 256 < 256 by simp)]
    refine congrArg _ (Fin.ext ?_)
    show 256 * 1 + d.val - 256 = d.val
    omega
  · have e : 256 * (2 : Fin 4).val + d.val - 256 - 256 = d.val := by
      show 256 * 2 + d.val - 256 - 256 = d.val
      omega
    rw [dif_neg (show ¬ 256 * (2 : Fin 4).val + d.val < 256 by simp; omega),
      dif_neg (show ¬ 256 * (2 : Fin 4).val + d.val - 256 < 256 by simp; omega), dif_pos (show _ < 256 by rw [e]; exact d.isLt)]
    simp only [e]
    rfl
  · have e : 256 * (3 : Fin 4).val + d.val - 256 - 256 - 256 = d.val := by
      show 256 * 3 + d.val - 256 - 256 - 256 = d.val
      omega
    rw [dif_neg (show ¬ 256 * (3 : Fin 4).val + d.val < 256 by simp; omega),
      dif_neg (show ¬ 256 * (3 : Fin 4).val + d.val - 256 < 256 by simp; omega),
      dif_neg (show ¬ 256 * (3 : Fin 4).val + d.val - 256 - 256 < 256 by simp; omega)]
    simp only [e]
    rfl

theorem pay1_apply (t : Vec Ideal S512x1024 .f32) (g b : Vec Ideal S1x1024 .f32) :
    k0_pay1 t g b (ix2 y j)
      = lnorm (fun k => t (ix2 y k)) (fun k => g (ix2 0 k)) (fun k => b (ix2 0 k)) j := by
  pointwise [k0_pay1, lnorm, mean]

end Payloads

/-! ## The reference -/

section Reference
open Cert.AttnRefIdeal.Read

variable (x : Vec Ideal Cert.AttnRefIdeal.S32768x1024 .bf16) (xf : Vec Ideal Cert.AttnRefIdeal.S32768x1024 .f32)
  (kv : Vec Ideal Cert.AttnRefIdeal.S2048x2048 .bf16) (wq wo : Vec Ideal Cert.AttnRefIdeal.S1024x1024 .f32)
  (g be : Vec Ideal Cert.AttnRefIdeal.S1024 .f32) (b : Fin 8) (h : Fin 4) (s : Fin 4096) (n d : Fin 256) (j : Fin 1024)
  (r : Fin 32768)

/-- The queries of one row of the stream. -/
def qAt : Fin 1024 → EReal := fun l => ∑ k : Fin 1024, x (ix2 r k) * wq (ix2 k l)

/-- The memory of one row of the stream: its batch's keys and values. -/
def kvAt : Fin 256 → Fin 2048 → EReal := fun n c => kv (ix2 (⟨r.val / 4096 * 256 + n.val, by omega⟩ : Fin 2048) c)

/-- Either result as a function of the arguments. -/
def resAt : EReal :=
  lnorm (fun k => resid (xf (ix2 r k)) (branch (qAt x wq r) (kvAt kv r) (fun k l => wo (ix2 k l)) k)) (fun k => g (ix1 k))
    (fun k => be (ix1 k)) j

/-- The row of batch `b` at position `s`. -/
def row (b : Fin 8) (s : Fin 4096) : Fin 32768 := ⟨b.val * 4096 + s.val, by omega⟩

theorem ref_q : val_main_v4 (F := Ideal) x wq (ix4 b s h d) = qAt x wq (row b s) ⟨256 * h.val + d.val, by omega⟩ := by
  pointwise [val_main_v4, val_main_v3, val_main_v1, val_main_v0, qAt, row]
  simp only [Nat.mul_comm 256]

theorem ref_k : val_main_v6 (F := Ideal) kv (ix4 b n h d) = kvAt kv (row b s) n ⟨256 * h.val + d.val, by omega⟩ := by
  pointwise [val_main_v6, val_main_v5, val_main_v2, kvAt, row]
  refine congrArg _ (congrArg₂ ix2 (Fin.ext ?_) (Fin.ext ?_))
  · show b.val * 256 + n.val = (b.val * 4096 + s.val) / 4096 * 256 + n.val
    omega
  · show h.val * 256 + d.val = 256 * h.val + d.val
    omega

theorem ref_v : val_main_v8 (F := Ideal) kv (ix4 b n h d) = kvAt kv (row b s) n ⟨1024 + 256 * h.val + d.val, by omega⟩ := by
  pointwise [val_main_v8, val_main_v7, val_main_v2, kvAt, row]
  refine congrArg _ (congrArg₂ ix2 (Fin.ext ?_) (Fin.ext ?_))
  · show b.val * 256 + n.val = (b.val * 4096 + s.val) / 4096 * 256 + n.val
    omega
  · show 1024 + (h.val * 256 + d.val) = 1024 + 256 * h.val + d.val
    omega

/-- The scores of one row and head. -/
def scoreAt : Fin 256 → EReal := score (256 * h.val) (by omega) (qAt x wq (row b s)) (kvAt kv (row b s))

theorem ref_score : val_main_v11 (F := Ideal) x kv wq (ix4 b h s n) = scoreAt x kv wq b h s n := by
  pointwise [val_main_v11, val_main_v10, val_main_v9, val_main_cst, ref_q, ref_k _ _ _ s, scoreAt, score]

theorem ref_fold : val_main_v12 (F := Ideal) x kv wq (ix3 b h s) = top (scoreAt x kv wq b h s) := by
  pointwise [val_main_v12, val_main_cst_0, ref_score, top]

theorem ref_init : val_main_v13 (F := Ideal) (ix3 b h s) = Ideal.ofBits .f32 0xFF800000#32 := by
  pointwise [val_main_v13, val_main_cst_1]

theorem ref_max : val_main_v14 (F := Ideal) x kv wq (ix3 b h s) = top (scoreAt x kv wq b h s) := by
  rw [val_main_v14_apply, ref_fold, ref_init, Ideal.maximumf_def]
  exact max_eq_right (init_le_top _)

theorem ref_exp : val_main_v18 (F := Ideal) x kv wq (ix4 b h s n)
    = Ideal.exp (scoreAt x kv wq b h s n - top (scoreAt x kv wq b h s)) := by
  pointwise [val_main_v18, val_main_v17, val_main_v16, val_main_v15, ref_max, ref_score]

theorem ref_sum : val_main_v19 (F := Ideal) x kv wq (ix3 b h s)
    = ∑ n, Ideal.exp (scoreAt x kv wq b h s n - top (scoreAt x kv wq b h s)) := by
  pointwise [val_main_v19, val_main_cst_2, ref_exp]

theorem ref_soft : val_main_v22 (F := Ideal) x kv wq (ix4 b h s n) = soft (scoreAt x kv wq b h s) n := by
  pointwise [val_main_v22, val_main_v21, val_main_v20, ref_sum, ref_exp, soft]

theorem ref_out : val_main_v23 (F := Ideal) x kv wq (ix4 b h d s)
    = headOut (256 * h.val) (by omega) (qAt x wq (row b s)) (kvAt kv (row b s)) d := by
  pointwise [val_main_v23, ref_v _ _ _ s, ref_soft, headOut]
  exact Finset.sum_congr rfl fun n _ => mul_comm _ _

theorem ref_cat (l : Fin 1024) : val_main_v25 (F := Ideal) x kv wq (ix3 b s l)
    = headOut (256 * (l.val / 256)) (by omega) (qAt x wq (row b s)) (kvAt kv (row b s)) ⟨l.val % 256, by omega⟩ := by
  pointwise [val_main_v25, val_main_v24, ref_out]

theorem ref_branch : val_main_v27 (F := Ideal) x kv wq wo (ix2 r j)
    = branch (qAt x wq r) (kvAt kv r) (fun k l => wo (ix2 k l)) j := by
  pointwise [val_main_v27, val_main_v26, ref_cat]
  have hr : row (⟨r.val / 4096, by omega⟩ : Fin 8) (⟨r.val % 4096, by omega⟩ : Fin 4096) = r :=
    Fin.ext (by show r.val / 4096 * 4096 + r.val % 4096 = r.val; omega)
  simp only [hr]
  unfold branch
  rw [sum_heads]
  refine Finset.sum_congr rfl fun h _ => Finset.sum_congr rfl fun d _ => congrArg₂ (· * ·) ?_ rfl
  have e1 : (256 * h.val + d.val) / 256 = h.val := by omega
  have e2 : (256 * h.val + d.val) % 256 = d.val := by omega
  simp only [e1, e2]

theorem ref_eq : val_main_v54 (F := Ideal) x xf kv wq wo g be (ix2 r j) = resAt x xf kv wq wo g be j r := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_cst_3, val_main_cst_4, val_main_cst_5, val_main_cst_6, val_main_cst_7, val_main_cst_8, resAt, lnorm, mean, resid, ref_branch]

end Reference

/-! ## The kernel's blocks -/

/-- One block's element of the first result, from the blocks of the seven operands. -/
theorem out7_apply (x0 : Vec Ideal S512x1024 .bf16) (x1 : Vec Ideal S512x1024 .f32) (x2 : Vec Ideal S256x2048 .bf16)
    (x3 x4 : Vec Ideal S1024x1024 .bf16) (x5 x6 : Vec Ideal S1x1024 .f32) (y : Fin 512) (j : Fin 1024) :
    out0_7 x0 x1 x2 x3 x4 x5 x6 (ix2 y j)
      = lnorm (fun k => resid (x1 (ix2 y k)) (branch (fun l => ∑ k : Fin 1024, x0 (ix2 y k) * x3 (ix2 k l))
          (fun n c => x2 (ix2 n c)) (fun k l => x4 (ix2 k l)) k)) (fun k => x5 (ix2 0 k)) (fun k => x6 (ix2 0 k)) j := by
  unfold out0_7 k0_pay8
  rw [View.canon_unit_zero hz]
  iterate 7 rw [View.ld_unit_zero hz]
  rw [pay1_apply]
  have hq : (fun l => k0_pay3 x0 x3 (ix2 y l)) = fun l => ∑ k : Fin 1024, x0 (ix2 y k) * x3 (ix2 k l) :=
    funext fun l => pay3_apply x0 x3 y l
  refine congrArg (fun T => lnorm T _ _ j) (funext fun k => ?_)
  refine (pay7_apply x2 (k0_pay3 x0 x3) y k _ _ _ x1 x4 (fun d => ?_) (fun d => ?_) (fun d => ?_)).trans ?_
  · rw [pay6_apply, pay3_apply]
  · rw [pay4_apply, hq]; rfl
  · rw [pay5_apply, hq]; rfl
  · rw [hq]

/-- The second result's block is the first's: at the extended reals a change of format is the identity. -/
theorem out8_eq (x0 : Vec Ideal S512x1024 .bf16) (x1 : Vec Ideal S512x1024 .f32) (x2 : Vec Ideal S256x2048 .bf16)
    (x3 x4 : Vec Ideal S1024x1024 .bf16) (x5 x6 : Vec Ideal S1x1024 .f32) (y : S512x1024.Idx) :
    out0_8 x0 x1 x2 x3 x4 x5 x6 y = out0_7 x0 x1 x2 x3 x4 x5 x6 y := by
  unfold out0_8 out0_7
  rw [View.canon_unit_zero hz, View.canon_unit_zero hz]
  rfl

variable (m : (ℓ : Loc nD τ sig) → Buf (Elt Ideal) ℓ) (ρ : Dev nD → PrngReg)

/-- A window that moves with the point: the stream's and the results' rows by the point, the memory's by its batch. -/
theorem idxRow : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val / 8 ∧ win0_2.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- A weight's or a vector's window never moves. -/
theorem idxFix : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The row of the arrays that point `t` has at row `y` of its blocks. -/
def rowOf (t : Fin cfg0.N) (y : Fin 512) : Fin 32768 :=
  ⟨t.val * 512 + y.val, by have h : t.val < 64 := t.isLt.trans_eq N_0; omega⟩

/-- An index of a two-axis array is given by its two coordinates. -/
theorem eq_ix2_of {a b : Nat} (i : (⟨2, ![a, b]⟩ : Shape).Idx) (p : Fin a) (q : Fin b) (h0 : (i 0).val = p.val)
    (h1 : (i 1).val = q.val) : i = ix2 p q := by
  rw [eq_ix2 i]
  exact congrArg₂ ix2 (Fin.ext h0) (Fin.ext h1)

/-! ## The operands that the host makes -/

variable (c : Dev nD)

theorem V_v0 (k l : Fin 1024) : V m c main_v0 (ix2 k l) = m ((c : Thread nD τ).loc main_arg3) (ix2 k l) := by
  show StableHlo.after hostOps0 (fun b => m (c, b)) main_v0 (ix2 k l) = _
  after_results
  rfl
theorem V_v1 (k l : Fin 1024) : V m c main_v1 (ix2 k l) = m ((c : Thread nD τ).loc main_arg4) (ix2 k l) := by
  show StableHlo.after hostOps0 (fun b => m (c, b)) main_v1 (ix2 k l) = _
  after_results
  rfl
theorem V_v2 (k : Fin 1024) : V m c main_v2 (ix2 (0 : Fin 1) k) = m ((c : Thread nD τ).loc main_arg5) (ix1 k) := by
  show StableHlo.after hostOps0 (fun b => m (c, b)) main_v2 (ix2 (0 : Fin 1) k) = _
  after_results
  pointwise
theorem V_v3 (k : Fin 1024) : V m c main_v3 (ix2 (0 : Fin 1) k) = m ((c : Thread nD τ).loc main_arg6) (ix1 k) := by
  show StableHlo.after hostOps0 (fun b => m (c, b)) main_v3 (ix2 (0 : Fin 1) k) = _
  after_results
  pointwise

section Blocks
variable (t : Fin cfg0.N)

theorem blk0 (y : Fin 512) (k : Fin 1024) : iblk m c 0 t (ix2 y k) = m ((c : Thread nD τ).loc main_arg0) (ix2 (rowOf t y) k) :=
  (congrArg (V m c main_arg0) (eq_ix2_of _ _ _
    (by show win0_0.index t (0 : Fin 2) * 512 + 1 * y.val = t.val * 512 + y.val; rw [(idxRow t).1.1]; omega)
    (by show win0_0.index t (1 : Fin 2) * 1024 + 1 * k.val = k.val; rw [(idxRow t).1.2]; omega))).trans
    (congrFun (V_main_arg0 m c) _)
theorem blk1 (y : Fin 512) (k : Fin 1024) : iblk m c 1 t (ix2 y k) = m ((c : Thread nD τ).loc main_arg1) (ix2 (rowOf t y) k) :=
  (congrArg (V m c main_arg1) (eq_ix2_of _ _ _
    (by show win0_1.index t (0 : Fin 2) * 512 + 1 * y.val = t.val * 512 + y.val; rw [(idxRow t).2.1.1]; omega)
    (by show win0_1.index t (1 : Fin 2) * 1024 + 1 * k.val = k.val; rw [(idxRow t).2.1.2]; omega))).trans
    (congrFun (V_main_arg1 m c) _)
theorem blk2 (y : Fin 512) (n : Fin 256) (l : Fin 2048) :
    iblk m c 2 t (ix2 n l) = kvAt (m ((c : Thread nD τ).loc main_arg2)) (rowOf t y) n l :=
  (congrArg (V m c main_arg2) (eq_ix2_of _ (⟨(rowOf t y).val / 4096 * 256 + n.val, by omega⟩ : Fin 2048) l
    (by
      show win0_2.index t (0 : Fin 2) * 256 + 1 * n.val = (t.val * 512 + y.val) / 4096 * 256 + n.val
      rw [(idxRow t).2.2.1.1, show (t.val * 512 + y.val) / 4096 = t.val / 8 by omega]
      omega)
    (by show win0_2.index t (1 : Fin 2) * 2048 + 1 * l.val = l.val; rw [(idxRow t).2.2.1.2]; omega))).trans
    (congrFun (V_main_arg2 m c) _)
theorem blk3 (k l : Fin 1024) : iblk m c 3 t (ix2 k l) = m ((c : Thread nD τ).loc main_arg3) (ix2 k l) :=
  (congrArg (V m c main_v0) (eq_ix2_of _ _ _
    (by show win0_3.index t (0 : Fin 2) * 1024 + 1 * k.val = k.val; rw [(idxFix t).1.1]; omega)
    (by show win0_3.index t (1 : Fin 2) * 1024 + 1 * l.val = l.val; rw [(idxFix t).1.2]; omega))).trans (V_v0 m c k l)
theorem blk4 (k l : Fin 1024) : iblk m c 4 t (ix2 k l) = m ((c : Thread nD τ).loc main_arg4) (ix2 k l) :=
  (congrArg (V m c main_v1) (eq_ix2_of _ _ _
    (by show win0_4.index t (0 : Fin 2) * 1024 + 1 * k.val = k.val; rw [(idxFix t).2.1.1]; omega)
    (by show win0_4.index t (1 : Fin 2) * 1024 + 1 * l.val = l.val; rw [(idxFix t).2.1.2]; omega))).trans (V_v1 m c k l)
theorem blk5 (k : Fin 1024) : iblk m c 5 t (ix2 (0 : Fin 1) k) = m ((c : Thread nD τ).loc main_arg5) (ix1 k) :=
  (congrArg (V m c main_v2) (eq_ix2_of _ _ _
    (by show win0_5.index t (0 : Fin 2) * 1 + 1 * 0 = 0; rw [(idxFix t).2.2.1.1])
    (by show win0_5.index t (1 : Fin 2) * 1024 + 1 * k.val = k.val; rw [(idxFix t).2.2.1.2]; omega))).trans (V_v2 m c k)
theorem blk6 (k : Fin 1024) : iblk m c 6 t (ix2 (0 : Fin 1) k) = m ((c : Thread nD τ).loc main_arg6) (ix1 k) :=
  (congrArg (V m c main_v3) (eq_ix2_of _ _ _
    (by show win0_6.index t (0 : Fin 2) * 1 + 1 * 0 = 0; rw [(idxFix t).2.2.2.1])
    (by show win0_6.index t (1 : Fin 2) * 1024 + 1 * k.val = k.val; rw [(idxFix t).2.2.2.2]; omega))).trans (V_v3 m c k)
theorem emb7 (y : Fin 512) (k : Fin 1024) : ((cfg0.win 7).blk t).view.emb (ix2 y k) = ix2 (rowOf t y) k :=
  eq_ix2_of _ _ _
    (by show win0_7.index t (0 : Fin 2) * 512 + 1 * y.val = t.val * 512 + y.val; rw [(idxRow t).2.2.2.1.1]; omega)
    (by show win0_7.index t (1 : Fin 2) * 1024 + 1 * k.val = k.val; rw [(idxRow t).2.2.2.1.2]; omega)
theorem emb8 (y : Fin 512) (k : Fin 1024) : ((cfg0.win 8).blk t).view.emb (ix2 y k) = ix2 (rowOf t y) k :=
  eq_ix2_of _ _ _
    (by show win0_8.index t (0 : Fin 2) * 512 + 1 * y.val = t.val * 512 + y.val; rw [(idxRow t).2.2.2.2.1]; omega)
    (by show win0_8.index t (1 : Fin 2) * 1024 + 1 * k.val = k.val; rw [(idxRow t).2.2.2.2.2]; omega)

end Blocks

/-! ## The two result arrays -/

/-- Either result array of the launch. -/
def G : S32768x1024.Idx → EReal := fun i =>
  resAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 1) (i 0)

/-- A point's block of either result. -/
theorem block_eq (t : Fin cfg0.N) (y : Fin 512) (j : Fin 1024) :
    out0_7 (iblk m c 0 t) (iblk m c 1 t) (iblk m c 2 t) (iblk m c 3 t) (iblk m c 4 t) (iblk m c 5 t) (iblk m c 6 t)
      (ix2 y j) = G m c (ix2 (rowOf t y) j) := by
  rw [out7_apply]
  unfold G resAt qAt
  simp only [blk0, blk1, blk2 m c t y, blk3, blk4, blk5, blk6]
  rfl

theorem flushed7_eq (t : Fin cfg0.N) : (dats m 0 c).flushed 7 t = ((cfg0.win 7).blk t).view.read (Elt Ideal) (G m c) := by
  rw [flushed7]
  funext i
  obtain ⟨y, j, rfl⟩ : ∃ (y : Fin 512) (j : Fin 1024), i = ix2 y j := ⟨i 0, i 1, eq_ix2 i⟩
  refine (block_eq m c t y j).trans ?_
  show _ = G m c (((cfg0.win 7).blk t).view.emb (ix2 y j))
  rw [emb7]

theorem flushed8_eq (t : Fin cfg0.N) : (dats m 0 c).flushed 8 t = ((cfg0.win 8).blk t).view.read (Elt Ideal) (G m c) := by
  rw [flushed8]
  funext i
  obtain ⟨y, j, rfl⟩ : ∃ (y : Fin 512) (j : Fin 1024), i = ix2 y j := ⟨i 0, i 1, eq_ix2 i⟩
  refine (out8_eq _ _ _ _ _ _ _ _).trans ((block_eq m c t y j).trans ?_)
  show _ = G m c (((cfg0.win 8).blk t).view.emb (ix2 y j))
  rw [emb8]

/-- Every row is some point's row. -/
theorem exists_row (i : S32768x1024.Idx) : ∃ (t : Fin cfg0.N) (y : Fin 512) (j : Fin 1024), i = ix2 (rowOf t y) j := by
  have h0 : (i 0).val < 32768 := (i 0).isLt
  refine ⟨⟨(i 0).val / 512, by rw [show cfg0.N = 64 from N_0]; omega⟩, ⟨(i 0).val % 512, by omega⟩, i 1, ?_⟩
  refine eq_ix2_of _ _ _ ?_ rfl
  show (i 0).val = (i 0).val / 512 * 512 + (i 0).val % 512
  omega

theorem final7 : (dats m 0 c).arrAt 7 cfg0.N = G m c :=
  (dats m 0 c).arrAt_eq_of_cover 7 (G m c) (fun t _ => flushed7_eq m c t) fun i => by
    obtain ⟨t, y, j, rfl⟩ := exists_row i
    refine ⟨t, flush0_7 _, ?_⟩
    have h := ((cfg0.win 7).blk t).view.emb_mem_set (ix2 y j)
    rwa [emb7] at h

theorem final8 : (dats m 0 c).arrAt 8 cfg0.N = G m c :=
  (dats m 0 c).arrAt_eq_of_cover 8 (G m c) (fun t _ => flushed8_eq m c t) fun i => by
    obtain ⟨t, y, j, rfl⟩ := exists_row i
    refine ⟨t, flush0_8 _, ?_⟩
    have h := ((cfg0.win 8).blk t).view.emb_mem_set (ix2 y j)
    rwa [emb8] at h

/-! ## The claims -/

theorem frame_ref : Cert.quiescent_AttnRefIdeal := fun m ρ _ =>
  (θ_run Cert.AttnRefIdeal.defs _ _).mono (fun r h => ⟨fun c => (h c).2.2,
      Idealize.ShloMosaic.sem_eq_zero_of_no_sems (by decide) r.2⟩)
    (Cert.AttnRefIdeal.Value.run (F := Ideal) m ρ)

/-- From memories that agree on the arguments the kernel and the reference end with the same two results. -/
theorem algebraic : Cert.algebraic_AttnIdeal_AttnRefIdeal := fun m ρ m' ρ' _ hag =>
  ⟨fun c => (dats m 0 c).arrAt 7 cfg0.N, fun c => (dats m 0 c).arrAt 8 cfg0.N, run_blocks m ρ,
    (θ_run Cert.AttnRefIdeal.defs _ _).mono (fun r h c => by
        obtain ⟨h0, h1, h2, h3, h4, h5, h6⟩ := hag c
        refine ⟨(h c).1.trans ((Cert.AttnRefIdeal.Read.val_main_v54_eq _ _).trans ?_),
          (h c).2.1.trans ((Cert.AttnRefIdeal.Read.val_main_v55_eq _ _).trans ?_), (h c).2.2⟩
        · rw [h0, h1, h2, h3, h4, h5, h6]
          refine Eq.trans (funext fun i => ?_) (final7 m c).symm
          rw [eq_ix2 i]
          exact ref_eq _ _ _ _ _ _ _ _ _
        · rw [h0, h1, h2, h3, h4, h5, h6]
          refine Eq.trans (funext fun i => ?_) (final8 m c).symm
          rw [eq_ix2 i]
          exact ref_eq _ _ _ _ _ _ _ _ _)
      (Cert.AttnRefIdeal.Value.run (F := Ideal) m' ρ')⟩

end Cert.Proof.Attn
-- ==== Proof.ProjValue.lean ====
/- The in-projection's value: the kernel's array is one function `G` of its two arguments, block by block, and the
   reference's term is the same function. -/
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise
public import proofs.«01_k».proof.Defs

@[expose] public section

set_option maxRecDepth 16384

noncomputable section

namespace Cert.Proof.Proj

open Cert.ProjIdeal Cert.ProjIdeal.Gen Cert.ProjIdeal.Value Idealize.ShloMosaic Idealize.ShloMosaic.TcCoe Idealize.SL.Sem

/-- The product of the activations with the weight columns that the kernel is given. -/
def G (a : Vec Ideal S32768x1024 .bf16) (w : Vec Ideal S1024x7168 .bf16) : Vec Ideal S32768x7168 .bf16 :=
  fun i => ∑ k : Fin 1024, a (ix2 (i 0) k) * w (ix2 k (i 1))

theorem hz : (![0, 0] : Fin 2 → Nat) = fun _ => 0 := funext fun a => by fin_cases a <;> rfl

/-- One block's result: the product of the two blocks. -/
theorem out_apply (x0 : Vec Ideal S1024x1024 .bf16) (x1 : Vec Ideal S1024x1024 .bf16) (y : S1024x1024.Idx) :
    out0_2 x0 x1 y = ∑ k : Fin 1024, x0 (ix2 (y 0) k) * x1 (ix2 k (y 1)) := by
  unfold out0_2
  rw [View.canon_unit_zero hz, View.ld_unit_zero hz, View.ld_unit_zero hz]
  idx_vars y
  pointwise [k0_pay1]
  try rfl

variable (m : (ℓ : Loc nD τ sig) → Buf (Elt Ideal) ℓ) (ρ : Dev nD → PrngReg)

theorem idx0 : ∀ t : Fin cfg0.N, win0_0.index t (0 : Fin 2) = t.val % 32 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 32 :=
  (by decide +kernel : ∀ t : Fin grid0.N, _)
theorem idx2 : ∀ t : Fin cfg0.N, win0_2.index t (0 : Fin 2) = t.val % 32 ∧ win0_2.index t (1 : Fin 2) = t.val / 32 :=
  (by decide +kernel : ∀ t : Fin grid0.N, _)

/-- What a point writes back is its block of the product. -/
theorem flushed2_eq (c : Dev nD) (t : Fin cfg0.N) :
    (dats m 0 c).flushed 2 t
      = ((cfg0.win 2).blk t).view.read (Elt Ideal) (G (V m c main_arg0) (V m c main_v3)) := by
  rw [flushed2]
  funext j
  obtain ⟨a0, a1⟩ := idx0 t
  obtain ⟨b0, b1⟩ := idx1 t
  obtain ⟨c0, c1⟩ := idx2 t
  show out0_2 (iblk m c 0 t) (iblk m c 1 t) j
    = G (V m c main_arg0) (V m c main_v3) (((cfg0.win 2).blk t).view.emb j)
  rw [out_apply]
  unfold G
  refine Finset.sum_congr rfl fun k _ => congrArg₂ (· * ·) ?_ ?_
  · show V m c main_arg0 (((cfg0.win 0).blk t).view.emb (ix2 (j 0) k)) = _
    refine congrArg _ (funext fun a => Fin.ext ?_)
    match a with
    | ⟨0, _⟩ =>
      show win0_0.index t (0 : Fin 2) * 1024 + 1 * (j 0).val = win0_2.index t (0 : Fin 2) * 1024 + 1 * (j 0).val
      rw [a0, c0]
    | ⟨1, _⟩ => show win0_0.index t (1 : Fin 2) * 1024 + 1 * k.val = k.val; rw [a1]; omega
  · show V m c main_v3 (((cfg0.win 1).blk t).view.emb (ix2 k (j 1))) = _
    refine congrArg _ (funext fun a => Fin.ext ?_)
    match a with
    | ⟨0, _⟩ => show win0_1.index t (0 : Fin 2) * 1024 + 1 * k.val = k.val; rw [b0]; omega
    | ⟨1, _⟩ =>
      show win0_1.index t (1 : Fin 2) * 1024 + 1 * (j 1).val = win0_2.index t (1 : Fin 2) * 1024 + 1 * (j 1).val
      rw [b1, c1]

/-- Every element of the array is in some point's block. -/
theorem covered2 (i : S32768x7168.Idx) :
    ∃ t : Fin cfg0.N, (cfg0.win 2).flush t = true ∧ i ∈ ((cfg0.win 2).blk t).view.set := by
  have h0 : (i 0).val < 32768 := (i 0).isLt
  have h1 : (i 1).val < 7168 := (i 1).isLt
  refine ⟨(⟨(i 1).val / 1024 * 32 + (i 0).val / 1024, by rw [show cfg0.N = 224 from N_0]; omega⟩ : Fin cfg0.N), flush0_2 _, ?_⟩
  generalize ht : (⟨(i 1).val / 1024 * 32 + (i 0).val / 1024, _⟩ : Fin cfg0.N) = t
  have hv : t.val = (i 1).val / 1024 * 32 + (i 0).val / 1024 := by rw [← ht]
  obtain ⟨c0, c1⟩ := idx2 t
  have h := ((cfg0.win 2).blk t).view.emb_mem_set
    (ix2 (⟨(i 0).val % 1024, by omega⟩ : Fin 1024) (⟨(i 1).val % 1024, by omega⟩ : Fin 1024))
  have e : ((cfg0.win 2).blk t).view.emb
    (ix2 (⟨(i 0).val % 1024, by omega⟩ : Fin 1024) (⟨(i 1).val % 1024, by omega⟩ : Fin 1024)) = i := by
    refine funext fun a => Fin.ext ?_
    match a with
    | ⟨0, _⟩ => show win0_2.index t (0 : Fin 2) * 1024 + 1 * ((i 0).val % 1024) = (i 0).val; rw [c0, hv]; omega
    | ⟨1, _⟩ => show win0_2.index t (1 : Fin 2) * 1024 + 1 * ((i 1).val % 1024) = (i 1).val; rw [c1, hv]; omega
  rwa [e] at h

/-- The array after the run. -/
theorem final2 (c : Dev nD) : (dats m 0 c).arrAt 2 cfg0.N = G (V m c main_arg0) (V m c main_v3) :=
  (dats m 0 c).arrAt_eq_of_cover 2 (G (V m c main_arg0) (V m c main_v3)) (fun t _ => flushed2_eq m c t) covered2

/-- The weights that the kernel is given: the columns of the whole matrix without the sixteen in the middle. -/
theorem V_v3 (c : Dev nD) (k : Fin 1024) (j : Fin 7168) :
    V m c main_v3 (ix2 k j) = m ((c : Thread nD τ).loc main_arg1)
      (ix2 k (if j.val < 3072 then ⟨j.val, by omega⟩ else ⟨j.val + 16, by omega⟩ : Fin 7184)) := by
  show StableHlo.after hostOps0 (fun b => m (c, b)) main_v3 (ix2 k j) = _
  after_results
  pointwise
  split
  · rfl
  · refine congrArg _ (congrArg (ix2 k) (Fin.ext ?_))
    show 3088 + (j.val - 3072) = j.val + 16
    omega

/-- The reference's term at a row and a column is the same product. -/
theorem ref_apply (a : Vec Ideal S32768x1024 .bf16) (w : Vec Ideal Cert.ProjRefIdeal.S1024x7184 .f32) (r : Fin 32768) (j : Fin 7168) :
    Cert.ProjRefIdeal.Read.val_main_v5 a w (ix2 r j)
      = ∑ k : Fin 1024, a (ix2 r k) * w (ix2 k (if j.val < 3072 then ⟨j.val, by omega⟩ else ⟨j.val + 16, by omega⟩ : Fin 7184)) := by
  pointwise [Cert.ProjRefIdeal.Read.val_main_v5, Cert.ProjRefIdeal.Read.val_main_v4, Cert.ProjRefIdeal.Read.val_main_v3,
    Cert.ProjRefIdeal.Read.val_main_v2, Cert.ProjRefIdeal.Read.val_main_v1, Cert.ProjRefIdeal.Read.val_main_v0]
  split
  · rfl
  · refine Finset.sum_congr rfl fun k _ => congrArg _ (congrArg _ (congrArg (ix2 k) (Fin.ext ?_)))
    show 3088 + (j.val - 3072) = j.val + 16
    omega

/-- The two results are one array. -/
theorem result_eq (c : Dev nD) : Cert.ProjRefIdeal.Read.val_main_v5 (F := Ideal) (m ((c : Thread nD τ).loc main_arg0))
    (m ((c : Thread nD τ).loc main_arg1)) = (dats m 0 c).arrAt 2 cfg0.N := by
  rw [final2]
  funext i
  idx_vars i
  rw [ref_apply]
  unfold G
  refine Finset.sum_congr rfl fun k _ => congrArg₂ (· * ·) ?_ (V_v3 m c k i1).symm
  rw [V_main_arg0]
  rfl

theorem frame_ref : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- From memories that agree on the arguments the kernel and the reference end with one result. -/
theorem algebraic : Cert.algebraic_ProjIdeal_ProjRefIdeal := fun m ρ m' ρ' _ hag =>
  ⟨fun c => (dats m 0 c).arrAt 2 cfg0.N, run_blocks m ρ,
    (θ_run Cert.ProjRefIdeal.defs _ _).mono (fun r h c => ⟨by
        obtain ⟨h0, h1⟩ := hag c
        refine (h c).1.trans ((Cert.ProjRefIdeal.Read.val_main_v5_eq _ _).trans ?_)
        rw [h0, h1]
        exact result_eq m c, (h c).2⟩)
      (Cert.ProjRefIdeal.Value.run (F := Ideal) m' ρ')⟩

end Cert.Proof.Proj
-- ==== Proof.MergeValue.lean ====
/- The merge's value: both results are one function of the nine arguments, row by row, in the kernel and in the
   reference. -/
module

public import proofs.«01_k».proof.Proof.Gen.MergeIdeal.Value
public import proofs.«01_k».proof.Proof.Gen.MergeRefIdeal.Run
public import proofs.«01_k».proof.Proof.Gen.MergeRefIdeal.Read
public import proofs.«01_k».proof.Proof.Rows
public import proofs.«01_k».proof.Defs

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem
open Cert.Proof.Rows

/-- The branch of one row at one column: the two gated projections, then the out-projection. -/
def mix (ys yg gs gg : Fin 1024 → EReal) (ps pg wo : Fin 1024 → Fin 1024 → EReal) (j : Fin 1024) : EReal :=
  ∑ l, (sigm (gs l) * (∑ k, ys k * ps k l) + sigm (gg l) * (∑ k, yg k * pg k l)) * wo l j

theorem hz : (![0, 0] : Fin 2 → Nat) = fun _ => 0 := funext fun a => by fin_cases a <;> rfl

theorem pay3_apply (gs ys : Vec Ideal S512x1024 .bf16) (ps : Vec Ideal S1024x1024 .bf16) (gg yg : Vec Ideal S512x1024 .bf16)
    (pg wo : Vec Ideal S1024x1024 .bf16) (y : Fin 512) (j : Fin 1024) :
    k0_pay3 gs ys ps gg yg pg wo (ix2 y j)
      = mix (fun k => ys (ix2 y k)) (fun k => yg (ix2 y k)) (fun k => gs (ix2 y k)) (fun k => gg (ix2 y k))
          (fun k l => ps (ix2 k l)) (fun k l => pg (ix2 k l)) (fun k l => wo (ix2 k l)) j := by
  pointwise [k0_pay3, mix, sigm]
  simp only [zero_sub]

theorem pay1_apply (h x : Vec Ideal S512x1024 .f32) (g b : Vec Ideal S1x1024 .f32) (y : Fin 512) (j : Fin 1024) :
    k0_pay1 h x g b (ix2 y j)
      = lnorm (fun k => resid (x (ix2 y k)) (h (ix2 y k))) (fun k => g (ix2 0 k)) (fun k => b (ix2 0 k)) j := by
  pointwise [k0_pay1, lnorm, mean, resid]

section Reference

open Cert.MergeRefIdeal Cert.MergeRefIdeal.Read

variable (ys yg : Vec Ideal Cert.MergeRefIdeal.S32768x1024 .bf16) (zx : Vec Ideal Cert.MergeRefIdeal.S32768x7168 .bf16)
  (x : Vec Ideal Cert.MergeRefIdeal.S32768x1024 .f32) (ps pg wo : Vec Ideal Cert.MergeRefIdeal.S1024x1024 .f32)
  (g b : Vec Ideal Cert.MergeRefIdeal.S1024 .f32) (r : Fin 32768) (j : Fin 1024)

/-- The branch as a function of the arguments. -/
def mixAt : EReal :=
  mix (fun k => ys (ix2 r k)) (fun k => yg (ix2 r k)) (fun k => zx (ix2 r (⟨5120 + k.val, by omega⟩ : Fin 7168)))
    (fun k => zx (ix2 r (⟨6144 + k.val, by omega⟩ : Fin 7168)))
    (fun k l => ps (ix2 k l)) (fun k l => pg (ix2 k l)) (fun k l => wo (ix2 k l)) j

/-- Either result as a function of the arguments. -/
def resAt : EReal :=
  lnorm (fun k => resid (x (ix2 r k)) (mixAt ys yg zx ps pg wo r k)) (fun k => g (ix1 k)) (fun k => b (ix1 k)) j

theorem ref_mix : val_main_v22 (F := Ideal) ys yg zx ps pg wo (ix2 r j) = mixAt ys yg zx ps pg wo r j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, mixAt, mix, sigm]

theorem ref_eq : val_main_v49 (F := Ideal) ys yg zx x ps pg wo g b (ix2 r j) = resAt ys yg zx x ps pg wo g b r j := by
  pointwise [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_3, val_main_cst_4, val_main_cst_5, val_main_cst_6, val_main_cst_7, val_main_cst_8, resAt, lnorm, mean, resid, ref_mix]

end Reference

/-! ## The kernel's blocks -/

/-- One block's element of the first result, from the blocks of the ten operands. -/
theorem out10_apply (x0 x1 x2 x3 : Vec Ideal S512x1024 .bf16) (x4 : Vec Ideal S512x1024 .f32) (x5 x6 x7 : Vec Ideal S1024x1024 .bf16)
    (x8 x9 : Vec Ideal S1x1024 .f32) (y : Fin 512) (j : Fin 1024) :
    out0_10 x0 x1 x2 x3 x4 x5 x6 x7 x8 x9 (ix2 y j)
      = lnorm (fun k => resid (x4 (ix2 y k)) (mix (fun k => x0 (ix2 y k)) (fun k => x1 (ix2 y k)) (fun k => x2 (ix2 y k))
          (fun k => x3 (ix2 y k)) (fun k l => x5 (ix2 k l)) (fun k l => x6 (ix2 k l)) (fun k l => x7 (ix2 k l)) k))
          (fun k => x8 (ix2 0 k)) (fun k => x9 (ix2 0 k)) j := by
  unfold out0_10 k0_pay4
  rw [View.canon_unit_zero hz]
  iterate 10 rw [View.ld_unit_zero hz]
  rw [pay1_apply]
  simp only [pay3_apply]

/-- The second result's block is the first's: at the extended reals a change of format is the identity. -/
theorem out11_eq (x0 x1 x2 x3 : Vec Ideal S512x1024 .bf16) (x4 : Vec Ideal S512x1024 .f32) (x5 x6 x7 : Vec Ideal S1024x1024 .bf16)
    (x8 x9 : Vec Ideal S1x1024 .f32) (y : S512x1024.Idx) :
    out0_11 x0 x1 x2 x3 x4 x5 x6 x7 x8 x9 y = out0_10 x0 x1 x2 x3 x4 x5 x6 x7 x8 x9 y := by
  unfold out0_11 out0_10
  rw [View.canon_unit_zero hz, View.canon_unit_zero hz]
  rfl

variable (m : (ℓ : Loc nD τ sig) → Buf (Elt Ideal) ℓ) (ρ : Dev nD → PrngReg)

/-- A row window's block index: the point on the rows, and its fixed column block. -/
theorem idxRow : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 5)
    ∧ (win0_3.index t (0 : Fin 2) = t.val ∧ win0_3.index t (1 : Fin 2) = 6)
    ∧ (win0_4.index t (0 : Fin 2) = t.val ∧ win0_4.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- A weight's or a vector's window never moves. -/
theorem idxFix : ∀ t : Fin cfg0.N, (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The row of the arrays that point `t` has at row `y` of its blocks. -/
def rowOf (t : Fin cfg0.N) (y : Fin 512) : Fin 32768 :=
  ⟨t.val * 512 + y.val, by have h : t.val < 64 := t.isLt.trans_eq N_0; omega⟩

/-- An index of a two-axis array is given by its two coordinates. -/
theorem eq_ix2_of {a b : Nat} (i : (⟨2, ![a, b]⟩ : Shape).Idx) (p : Fin a) (q : Fin b) (h0 : (i 0).val = p.val)
    (h1 : (i 1).val = q.val) : i = ix2 p q := by
  rw [eq_ix2 i]
  exact congrArg₂ ix2 (Fin.ext h0) (Fin.ext h1)

/-! ## The operands that the host makes -/

variable (c : Dev nD)

theorem V_v0 (k l : Fin 1024) : V m c main_v0 (ix2 k l) = m ((c : Thread nD τ).loc main_arg4) (ix2 k l) := by
  show StableHlo.after hostOps0 (fun b => m (c, b)) main_v0 (ix2 k l) = _
  after_results
  rfl
theorem V_v1 (k l : Fin 1024) : V m c main_v1 (ix2 k l) = m ((c : Thread nD τ).loc main_arg5) (ix2 k l) := by
  show StableHlo.after hostOps0 (fun b => m (c, b)) main_v1 (ix2 k l) = _
  after_results
  rfl
theorem V_v2 (k l : Fin 1024) : V m c main_v2 (ix2 k l) = m ((c : Thread nD τ).loc main_arg6) (ix2 k l) := by
  show StableHlo.after hostOps0 (fun b => m (c, b)) main_v2 (ix2 k l) = _
  after_results
  rfl
theorem V_v3 (k : Fin 1024) : V m c main_v3 (ix2 (0 : Fin 1) k) = m ((c : Thread nD τ).loc main_arg7) (ix1 k) := by
  show StableHlo.after hostOps0 (fun b => m (c, b)) main_v3 (ix2 (0 : Fin 1) k) = _
  after_results
  pointwise
theorem V_v4 (k : Fin 1024) : V m c main_v4 (ix2 (0 : Fin 1) k) = m ((c : Thread nD τ).loc main_arg8) (ix1 k) := by
  show StableHlo.after hostOps0 (fun b => m (c, b)) main_v4 (ix2 (0 : Fin 1) k) = _
  after_results
  pointwise

section Blocks
variable (t : Fin cfg0.N)

theorem blk0 (y : Fin 512) (k : Fin 1024) : iblk m c 0 t (ix2 y k) = m ((c : Thread nD τ).loc main_arg0) (ix2 (rowOf t y) k) :=
  (congrArg (V m c main_arg0) (eq_ix2_of _ _ _
    (by show win0_0.index t (0 : Fin 2) * 512 + 1 * y.val = t.val * 512 + y.val; rw [(idxRow t).1.1]; omega)
    (by show win0_0.index t (1 : Fin 2) * 1024 + 1 * k.val = k.val; rw [(idxRow t).1.2]; omega))).trans (congrFun (V_main_arg0 m c) _)
theorem blk1 (y : Fin 512) (k : Fin 1024) : iblk m c 1 t (ix2 y k) = m ((c : Thread nD τ).loc main_arg1) (ix2 (rowOf t y) k) :=
  (congrArg (V m c main_arg1) (eq_ix2_of _ _ _
    (by show win0_1.index t (0 : Fin 2) * 512 + 1 * y.val = t.val * 512 + y.val; rw [(idxRow t).2.1.1]; omega)
    (by show win0_1.index t (1 : Fin 2) * 1024 + 1 * k.val = k.val; rw [(idxRow t).2.1.2]; omega))).trans (congrFun (V_main_arg1 m c) _)
theorem blk2 (y : Fin 512) (k : Fin 1024) :
    iblk m c 2 t (ix2 y k) = m ((c : Thread nD τ).loc main_arg2) (ix2 (rowOf t y) (⟨5120 + k.val, by omega⟩ : Fin 7168)) :=
  (congrArg (V m c main_arg2) (eq_ix2_of _ _ _
    (by show win0_2.index t (0 : Fin 2) * 512 + 1 * y.val = t.val * 512 + y.val; rw [(idxRow t).2.2.1.1]; omega)
    (by show win0_2.index t (1 : Fin 2) * 1024 + 1 * k.val = 5120 + k.val; rw [(idxRow t).2.2.1.2]; omega))).trans (congrFun (V_main_arg2 m c) _)
theorem blk3 (y : Fin 512) (k : Fin 1024) :
    iblk m c 3 t (ix2 y k) = m ((c : Thread nD τ).loc main_arg2) (ix2 (rowOf t y) (⟨6144 + k.val, by omega⟩ : Fin 7168)) :=
  (congrArg (V m c main_arg2) (eq_ix2_of _ _ _
    (by show win0_3.index t (0 : Fin 2) * 512 + 1 * y.val = t.val * 512 + y.val; rw [(idxRow t).2.2.2.1.1]; omega)
    (by show win0_3.index t (1 : Fin 2) * 1024 + 1 * k.val = 6144 + k.val; rw [(idxRow t).2.2.2.1.2]; omega))).trans (congrFun (V_main_arg2 m c) _)
theorem blk4 (y : Fin 512) (k : Fin 1024) : iblk m c 4 t (ix2 y k) = m ((c : Thread nD τ).loc main_arg3) (ix2 (rowOf t y) k) :=
  (congrArg (V m c main_arg3) (eq_ix2_of _ _ _
    (by show win0_4.index t (0 : Fin 2) * 512 + 1 * y.val = t.val * 512 + y.val; rw [(idxRow t).2.2.2.2.1.1]; omega)
    (by show win0_4.index t (1 : Fin 2) * 1024 + 1 * k.val = k.val; rw [(idxRow t).2.2.2.2.1.2]; omega))).trans (congrFun (V_main_arg3 m c) _)
theorem blk5 (k l : Fin 1024) : iblk m c 5 t (ix2 k l) = m ((c : Thread nD τ).loc main_arg4) (ix2 k l) :=
  (congrArg (V m c main_v0) (eq_ix2_of _ _ _
    (by show win0_5.index t (0 : Fin 2) * 1024 + 1 * k.val = k.val; rw [(idxFix t).1.1]; omega)
    (by show win0_5.index t (1 : Fin 2) * 1024 + 1 * l.val = l.val; rw [(idxFix t).1.2]; omega))).trans (V_v0 m c k l)
theorem blk6 (k l : Fin 1024) : iblk m c 6 t (ix2 k l) = m ((c : Thread nD τ).loc main_arg5) (ix2 k l) :=
  (congrArg (V m c main_v1) (eq_ix2_of _ _ _
    (by show win0_6.index t (0 : Fin 2) * 1024 + 1 * k.val = k.val; rw [(idxFix t).2.1.1]; omega)
    (by show win0_6.index t (1 : Fin 2) * 1024 + 1 * l.val = l.val; rw [(idxFix t).2.1.2]; omega))).trans (V_v1 m c k l)
theorem blk7 (k l : Fin 1024) : iblk m c 7 t (ix2 k l) = m ((c : Thread nD τ).loc main_arg6) (ix2 k l) :=
  (congrArg (V m c main_v2) (eq_ix2_of _ _ _
    (by show win0_7.index t (0 : Fin 2) * 1024 + 1 * k.val = k.val; rw [(idxFix t).2.2.1.1]; omega)
    (by show win0_7.index t (1 : Fin 2) * 1024 + 1 * l.val = l.val; rw [(idxFix t).2.2.1.2]; omega))).trans (V_v2 m c k l)
theorem blk8 (k : Fin 1024) : iblk m c 8 t (ix2 (0 : Fin 1) k) = m ((c : Thread nD τ).loc main_arg7) (ix1 k) :=
  (congrArg (V m c main_v3) (eq_ix2_of _ _ _
    (by show win0_8.index t (0 : Fin 2) * 1 + 1 * 0 = 0; rw [(idxFix t).2.2.2.1.1])
    (by show win0_8.index t (1 : Fin 2) * 1024 + 1 * k.val = k.val; rw [(idxFix t).2.2.2.1.2]; omega))).trans (V_v3 m c k)
theorem blk9 (k : Fin 1024) : iblk m c 9 t (ix2 (0 : Fin 1) k) = m ((c : Thread nD τ).loc main_arg8) (ix1 k) :=
  (congrArg (V m c main_v4) (eq_ix2_of _ _ _
    (by show win0_9.index t (0 : Fin 2) * 1 + 1 * 0 = 0; rw [(idxFix t).2.2.2.2.1])
    (by show win0_9.index t (1 : Fin 2) * 1024 + 1 * k.val = k.val; rw [(idxFix t).2.2.2.2.2]; omega))).trans (V_v4 m c k)
theorem emb10 (y : Fin 512) (k : Fin 1024) : ((cfg0.win 10).blk t).view.emb (ix2 y k) = ix2 (rowOf t y) k :=
  eq_ix2_of _ _ _
    (by show win0_10.index t (0 : Fin 2) * 512 + 1 * y.val = t.val * 512 + y.val; rw [(idxRow t).2.2.2.2.2.1.1]; omega)
    (by show win0_10.index t (1 : Fin 2) * 1024 + 1 * k.val = k.val; rw [(idxRow t).2.2.2.2.2.1.2]; omega)
theorem emb11 (y : Fin 512) (k : Fin 1024) : ((cfg0.win 11).blk t).view.emb (ix2 y k) = ix2 (rowOf t y) k :=
  eq_ix2_of _ _ _
    (by show win0_11.index t (0 : Fin 2) * 512 + 1 * y.val = t.val * 512 + y.val; rw [(idxRow t).2.2.2.2.2.2.1]; omega)
    (by show win0_11.index t (1 : Fin 2) * 1024 + 1 * k.val = k.val; rw [(idxRow t).2.2.2.2.2.2.2]; omega)

end Blocks

/-! ## The two result arrays -/

/-- Either result array of the launch. -/
def G : S32768x1024.Idx → EReal := fun i =>
  resAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

/-- A point's block of either result. -/
theorem block_eq (t : Fin cfg0.N) (y : Fin 512) (j : Fin 1024) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 y j) = G m c (ix2 (rowOf t y) j) := by
  rw [out10_apply]
  unfold G resAt mixAt
  simp only [blk0, blk1, blk2, blk3, blk4, blk5, blk6, blk7, blk8, blk9]
  rfl

theorem flushed10_eq (t : Fin cfg0.N) : (dats m 0 c).flushed 10 t = ((cfg0.win 10).blk t).view.read (Elt Ideal) (G m c) := by
  rw [flushed10]
  funext i
  obtain ⟨y, j, rfl⟩ : ∃ (y : Fin 512) (j : Fin 1024), i = ix2 y j := ⟨i 0, i 1, eq_ix2 i⟩
  refine (block_eq m c t y j).trans ?_
  show _ = G m c (((cfg0.win 10).blk t).view.emb (ix2 y j))
  rw [emb10]

theorem flushed11_eq (t : Fin cfg0.N) : (dats m 0 c).flushed 11 t = ((cfg0.win 11).blk t).view.read (Elt Ideal) (G m c) := by
  rw [flushed11]
  funext i
  obtain ⟨y, j, rfl⟩ : ∃ (y : Fin 512) (j : Fin 1024), i = ix2 y j := ⟨i 0, i 1, eq_ix2 i⟩
  refine (out11_eq _ _ _ _ _ _ _ _ _ _ _).trans ((block_eq m c t y j).trans ?_)
  show _ = G m c (((cfg0.win 11).blk t).view.emb (ix2 y j))
  rw [emb11]

/-- Every row is some point's row. -/
theorem exists_row (i : S32768x1024.Idx) : ∃ (t : Fin cfg0.N) (y : Fin 512) (j : Fin 1024), i = ix2 (rowOf t y) j := by
  have h0 : (i 0).val < 32768 := (i 0).isLt
  refine ⟨⟨(i 0).val / 512, by rw [show cfg0.N = 64 from N_0]; omega⟩, ⟨(i 0).val % 512, by omega⟩, i 1, ?_⟩
  refine eq_ix2_of _ _ _ ?_ rfl
  show (i 0).val = (i 0).val / 512 * 512 + (i 0).val % 512
  omega

theorem final10 : (dats m 0 c).arrAt 10 cfg0.N = G m c :=
  (dats m 0 c).arrAt_eq_of_cover 10 (G m c) (fun t _ => flushed10_eq m c t) fun i => by
    obtain ⟨t, y, j, rfl⟩ := exists_row i
    refine ⟨t, flush0_10 _, ?_⟩
    have h := ((cfg0.win 10).blk t).view.emb_mem_set (ix2 y j)
    rwa [emb10] at h

theorem final11 : (dats m 0 c).arrAt 11 cfg0.N = G m c :=
  (dats m 0 c).arrAt_eq_of_cover 11 (G m c) (fun t _ => flushed11_eq m c t) fun i => by
    obtain ⟨t, y, j, rfl⟩ := exists_row i
    refine ⟨t, flush0_11 _, ?_⟩
    have h := ((cfg0.win 11).blk t).view.emb_mem_set (ix2 y j)
    rwa [emb11] at h

/-! ## The claims -/

theorem frame_ref : Cert.quiescent_MergeRefIdeal := fun m ρ _ =>
  (θ_run Cert.MergeRefIdeal.defs _ _).mono (fun r h => ⟨fun c => (h c).2.2,
      Idealize.ShloMosaic.sem_eq_zero_of_no_sems (by decide) r.2⟩)
    (Cert.MergeRefIdeal.Value.run (F := Ideal) m ρ)

/-- From memories that agree on the arguments the kernel and the reference end with the same two results. -/
theorem algebraic : Cert.algebraic_MergeIdeal_MergeRefIdeal := fun m ρ m' ρ' _ hag =>
  ⟨fun c => (dats m 0 c).arrAt 10 cfg0.N, fun c => (dats m 0 c).arrAt 11 cfg0.N, run_blocks m ρ,
    (θ_run Cert.MergeRefIdeal.defs _ _).mono (fun r h c => by
        obtain ⟨h0, h1, h2, h3, h4, h5, h6, h7, h8⟩ := hag c
        refine ⟨(h c).1.trans ((Cert.MergeRefIdeal.Read.val_main_v49_eq _ _).trans ?_),
          (h c).2.1.trans ((Cert.MergeRefIdeal.Read.val_main_v50_eq _ _).trans ?_), (h c).2.2⟩
        · rw [h0, h1, h2, h3, h4, h5, h6, h7, h8]
          refine Eq.trans (funext fun i => ?_) (final10 m c).symm
          rw [eq_ix2 i]
          exact ref_eq _ _ _ _ _ _ _ _ _ _ _
        · rw [h0, h1, h2, h3, h4, h5, h6, h7, h8]
          refine Eq.trans (funext fun i => ?_) (final11 m c).symm
          rw [eq_ix2 i]
          exact ref_eq _ _ _ _ _ _ _ _ _ _ _)
      (Cert.MergeRefIdeal.Value.run (F := Ideal) m' ρ')⟩

end Cert.Proof.Merge
-- ==== Proof.EntryValue.lean ====
/- The entry norm's value: both results are the layer norm of the stream's rows, in the kernel and in the reference. -/
module

public import proofs.«01_k».proof.Proof.Gen.EntryIdeal.Value
public import proofs.«01_k».proof.Proof.Gen.EntryRefIdeal.Run
public import proofs.«01_k».proof.Proof.Gen.EntryRefIdeal.Read
public import Idealize.ShloMosaic.Lib.Pointwise
public import proofs.«01_k».proof.Proof.Rows
public import proofs.«01_k».proof.Defs

@[expose] public section

set_option maxRecDepth 16384

noncomputable section

namespace Cert.Proof.Entry

open Cert.EntryIdeal Cert.EntryIdeal.Gen Cert.EntryIdeal.Value Idealize.ShloMosaic Idealize.ShloMosaic.TcCoe Idealize.SL.Sem
open Cert.Proof.Rows

theorem hz : (![0, 0] : Fin 2 → Nat) = fun _ => 0 := funext fun a => by fin_cases a <;> rfl

theorem pay1_apply (x : Vec Ideal S512x1024 .f32) (g b : Vec Ideal S1x1024 .f32) (y : Fin 512) (j : Fin 1024) :
    k0_pay1 x g b (ix2 y j)
      = lnorm (fun k => x (ix2 y k)) (fun k => g (ix2 0 k)) (fun k => b (ix2 0 k)) j := by
  pointwise [k0_pay1, lnorm, mean]

/-- The batch entry and the position of a row of the flat stream. -/
def part (r : Fin 32768) : Fin 8 := ⟨r.val / 4096, by omega⟩
def pos (r : Fin 32768) : Fin 4096 := ⟨r.val % 4096, by omega⟩

section Reference

open Cert.EntryRefIdeal Cert.EntryRefIdeal.Read

variable (x : Vec Ideal Cert.EntryRefIdeal.S8x4096x1024 .f32) (g b : Vec Ideal Cert.EntryRefIdeal.S1024 .f32)

/-- Either result as a function of the arguments. -/
def resAt (r : Fin 32768) (j : Fin 1024) : EReal :=
  lnorm (fun k => x (ix3 (part r) (pos r) k)) (fun k => g (ix1 k)) (fun k => b (ix1 k)) j

theorem ref_norm (p : Fin 8) (s : Fin 4096) (j : Fin 1024) :
    val_main_v23 (F := Ideal) x g b (ix3 p s j)
      = lnorm (fun k => x (ix3 p s k)) (fun k => g (ix1 k)) (fun k => b (ix1 k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, lnorm, mean]

theorem ref_eq (r : Fin 32768) (j : Fin 1024) : val_main_v24 (F := Ideal) x g b (ix2 r j) = resAt x g b r j := by
  rw [val_main_v24_apply]
  refine (congrArg (val_main_v23 (F := Ideal) x g b) ?_).trans (ref_norm x g b (part r) (pos r) j)
  refine funext fun a => Fin.ext ?_
  match a with
  | ⟨0, _⟩ => show (r.val * 1024 + j.val) / 4194304 = r.val / 4096; omega
  | ⟨1, _⟩ => show (r.val * 1024 + j.val) / 1024 % 4096 = r.val % 4096; omega
  | ⟨2, _⟩ => show (r.val * 1024 + j.val) % 1024 = j.val; omega

end Reference

/-! ## The kernel's blocks -/

theorem out3_apply (x0 : Vec Ideal S512x1024 .f32) (x1 x2 : Vec Ideal S1x1024 .f32) (y : Fin 512) (j : Fin 1024) :
    out0_3 x0 x1 x2 (ix2 y j)
      = lnorm (fun k => x0 (ix2 y k)) (fun k => x1 (ix2 0 k)) (fun k => x2 (ix2 0 k)) j := by
  unfold out0_3
  rw [View.canon_unit_zero hz]
  iterate 3 rw [View.ld_unit_zero hz]
  rw [pay1_apply]

/-- The second result's block is the first's: at the extended reals a change of format is the identity. -/
theorem out4_eq (x0 : Vec Ideal S512x1024 .f32) (x1 x2 : Vec Ideal S1x1024 .f32) (y : S512x1024.Idx) :
    out0_4 x0 x1 x2 y = out0_3 x0 x1 x2 y := by
  unfold out0_4 out0_3
  rw [View.canon_unit_zero hz, View.canon_unit_zero hz]
  rfl

variable (m : (ℓ : Loc nD τ sig) → Buf (Elt Ideal) ℓ) (ρ : Dev nD → PrngReg)

/-- The windows' block indices: the point on the rows, and the vectors' fixed block. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- The row of the arrays that point `t` has at row `y` of its blocks. -/
def rowOf (t : Fin cfg0.N) (y : Fin 512) : Fin 32768 :=
  ⟨t.val * 512 + y.val, by have h : t.val < 64 := t.isLt.trans_eq N_0; omega⟩

/-- An index of a two-axis array is given by its two coordinates. -/
theorem eq_ix2_of {a b : Nat} (i : (⟨2, ![a, b]⟩ : Shape).Idx) (p : Fin a) (q : Fin b) (h0 : (i 0).val = p.val)
    (h1 : (i 1).val = q.val) : i = ix2 p q := by
  rw [eq_ix2 i]
  exact congrArg₂ ix2 (Fin.ext h0) (Fin.ext h1)

variable (c : Dev nD)

theorem V_v0 (r : Fin 32768) (k : Fin 1024) :
    V m c main_v0 (ix2 r k) = m ((c : Thread nD τ).loc main_arg0) (ix3 (part r) (pos r) k) := by
  show StableHlo.after hostOps0 (fun b => m (c, b)) main_v0 (ix2 r k) = _
  after_results
  refine shapeCast_apply _ _ (ix2 r k) (ix3 (part r) (pos r) k) ?_
  rewrite [Shape.rowMajor_val_three, Shape.rowMajor_val_two]
  show (r.val / 4096 * 4096 + r.val % 4096) * 1024 + k.val = r.val * 1024 + k.val
  omega
theorem V_v1 (k : Fin 1024) : V m c main_v1 (ix2 (0 : Fin 1) k) = m ((c : Thread nD τ).loc main_arg1) (ix1 k) := by
  show StableHlo.after hostOps0 (fun b => m (c, b)) main_v1 (ix2 (0 : Fin 1) k) = _
  after_results
  pointwise
theorem V_v2 (k : Fin 1024) : V m c main_v2 (ix2 (0 : Fin 1) k) = m ((c : Thread nD τ).loc main_arg2) (ix1 k) := by
  show StableHlo.after hostOps0 (fun b => m (c, b)) main_v2 (ix2 (0 : Fin 1) k) = _
  after_results
  pointwise

section Blocks
variable (t : Fin cfg0.N)

theorem blk0 (y : Fin 512) (k : Fin 1024) : iblk m c 0 t (ix2 y k)
    = m ((c : Thread nD τ).loc main_arg0) (ix3 (part (rowOf t y)) (pos (rowOf t y)) k) :=
  (congrArg (V m c main_v0) (eq_ix2_of _ _ _
    (by show win0_0.index t (0 : Fin 2) * 512 + 1 * y.val = t.val * 512 + y.val; rw [(idx t).1.1]; omega)
    (by show win0_0.index t (1 : Fin 2) * 1024 + 1 * k.val = k.val; rw [(idx t).1.2]; omega))).trans (V_v0 m c (rowOf t y) k)
theorem blk1 (k : Fin 1024) : iblk m c 1 t (ix2 (0 : Fin 1) k) = m ((c : Thread nD τ).loc main_arg1) (ix1 k) :=
  (congrArg (V m c main_v1) (eq_ix2_of _ _ _
    (by show win0_1.index t (0 : Fin 2) * 1 + 1 * 0 = 0; rw [(idx t).2.1.1])
    (by show win0_1.index t (1 : Fin 2) * 1024 + 1 * k.val = k.val; rw [(idx t).2.1.2]; omega))).trans (V_v1 m c k)
theorem blk2 (k : Fin 1024) : iblk m c 2 t (ix2 (0 : Fin 1) k) = m ((c : Thread nD τ).loc main_arg2) (ix1 k) :=
  (congrArg (V m c main_v2) (eq_ix2_of _ _ _
    (by show win0_2.index t (0 : Fin 2) * 1 + 1 * 0 = 0; rw [(idx t).2.2.1.1])
    (by show win0_2.index t (1 : Fin 2) * 1024 + 1 * k.val = k.val; rw [(idx t).2.2.1.2]; omega))).trans (V_v2 m c k)
theorem emb3 (y : Fin 512) (k : Fin 1024) : ((cfg0.win 3).blk t).view.emb (ix2 y k) = ix2 (rowOf t y) k :=
  eq_ix2_of _ _ _
    (by show win0_3.index t (0 : Fin 2) * 512 + 1 * y.val = t.val * 512 + y.val; rw [(idx t).2.2.2.1.1]; omega)
    (by show win0_3.index t (1 : Fin 2) * 1024 + 1 * k.val = k.val; rw [(idx t).2.2.2.1.2]; omega)
theorem emb4 (y : Fin 512) (k : Fin 1024) : ((cfg0.win 4).blk t).view.emb (ix2 y k) = ix2 (rowOf t y) k :=
  eq_ix2_of _ _ _
    (by show win0_4.index t (0 : Fin 2) * 512 + 1 * y.val = t.val * 512 + y.val; rw [(idx t).2.2.2.2.1]; omega)
    (by show win0_4.index t (1 : Fin 2) * 1024 + 1 * k.val = k.val; rw [(idx t).2.2.2.2.2]; omega)

end Blocks

/-! ## The two result arrays -/

/-- Either result array of the launch. -/
def G : S32768x1024.Idx → EReal := fun i =>
  resAt (m ((c : Thread nD τ).loc main_arg0)) (m ((c : Thread nD τ).loc main_arg1)) (m ((c : Thread nD τ).loc main_arg2)) (i 0) (i 1)

/-- A point's block of either result. -/
theorem block_eq (t : Fin cfg0.N) (y : Fin 512) (j : Fin 1024) :
    out0_3 (iblk m c 0 t) (iblk m c 1 t) (iblk m c 2 t) (ix2 y j) = G m c (ix2 (rowOf t y) j) := by
  rw [out3_apply]
  unfold G resAt
  simp only [blk0, blk1, blk2]
  rfl

theorem flushed3_eq (t : Fin cfg0.N) : (dats m 0 c).flushed 3 t = ((cfg0.win 3).blk t).view.read (Elt Ideal) (G m c) := by
  rw [flushed3]
  funext i
  obtain ⟨y, j, rfl⟩ : ∃ (y : Fin 512) (j : Fin 1024), i = ix2 y j := ⟨i 0, i 1, eq_ix2 i⟩
  refine (block_eq m c t y j).trans ?_
  show _ = G m c (((cfg0.win 3).blk t).view.emb (ix2 y j))
  rw [emb3]

theorem flushed4_eq (t : Fin cfg0.N) : (dats m 0 c).flushed 4 t = ((cfg0.win 4).blk t).view.read (Elt Ideal) (G m c) := by
  rw [flushed4]
  funext i
  obtain ⟨y, j, rfl⟩ : ∃ (y : Fin 512) (j : Fin 1024), i = ix2 y j := ⟨i 0, i 1, eq_ix2 i⟩
  refine (out4_eq _ _ _ _).trans ((block_eq m c t y j).trans ?_)
  show _ = G m c (((cfg0.win 4).blk t).view.emb (ix2 y j))
  rw [emb4]

/-- Every row is some point's row. -/
theorem exists_row (i : S32768x1024.Idx) : ∃ (t : Fin cfg0.N) (y : Fin 512) (j : Fin 1024), i = ix2 (rowOf t y) j := by
  have h0 : (i 0).val < 32768 := (i 0).isLt
  refine ⟨⟨(i 0).val / 512, by rw [show cfg0.N = 64 from N_0]; omega⟩, ⟨(i 0).val % 512, by omega⟩, i 1, ?_⟩
  refine eq_ix2_of _ _ _ ?_ rfl
  show (i 0).val = (i 0).val / 512 * 512 + (i 0).val % 512
  omega

theorem final3 : (dats m 0 c).arrAt 3 cfg0.N = G m c :=
  (dats m 0 c).arrAt_eq_of_cover 3 (G m c) (fun t _ => flushed3_eq m c t) fun i => by
    obtain ⟨t, y, j, rfl⟩ := exists_row i
    refine ⟨t, flush0_3 _, ?_⟩
    have h := ((cfg0.win 3).blk t).view.emb_mem_set (ix2 y j)
    rwa [emb3] at h

theorem final4 : (dats m 0 c).arrAt 4 cfg0.N = G m c :=
  (dats m 0 c).arrAt_eq_of_cover 4 (G m c) (fun t _ => flushed4_eq m c t) fun i => by
    obtain ⟨t, y, j, rfl⟩ := exists_row i
    refine ⟨t, flush0_4 _, ?_⟩
    have h := ((cfg0.win 4).blk t).view.emb_mem_set (ix2 y j)
    rwa [emb4] at h

/-! ## The claims -/

theorem frame_ref : Cert.quiescent_EntryRefIdeal := fun m ρ _ =>
  (θ_run Cert.EntryRefIdeal.defs _ _).mono (fun r h => ⟨fun c => (h c).2.2,
      Idealize.ShloMosaic.sem_eq_zero_of_no_sems (by decide) r.2⟩)
    (Cert.EntryRefIdeal.Value.run (F := Ideal) m ρ)

/-- From memories that agree on the arguments the kernel and the reference end with the same two results. -/
theorem algebraic : Cert.algebraic_EntryIdeal_EntryRefIdeal := fun m ρ m' ρ' _ hag =>
  ⟨fun c => (dats m 0 c).arrAt 3 cfg0.N, fun c => (dats m 0 c).arrAt 4 cfg0.N, run_blocks m ρ,
    (θ_run Cert.EntryRefIdeal.defs _ _).mono (fun r h c => by
        obtain ⟨h0, h1, h2⟩ := hag c
        refine ⟨(h c).1.trans ((Cert.EntryRefIdeal.Read.val_main_v24_eq _ _ _).trans ?_),
          (h c).2.1.trans ((Cert.EntryRefIdeal.Read.val_main_v25_eq _ _ _).trans ?_), (h c).2.2⟩
        · rw [h0, h1, h2]
          refine Eq.trans (funext fun i => ?_) (final3 m c).symm
          rw [eq_ix2 i]
          exact ref_eq _ _ _ _ _
        · rw [h0, h1, h2]
          refine Eq.trans (funext fun i => ?_) (final4 m c).symm
          rw [eq_ix2 i]
          exact ref_eq _ _ _ _ _)
      (Cert.EntryRefIdeal.Value.run (F := Ideal) m' ρ')⟩

end Cert.Proof.Entry
-- ==== Proof.KvValue.lean ====
/- The value of the keys' and values' projection: the kernel's array is one function `G` of its three arguments, block by block, and the
   reference's term is the same function. -/
module

public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import proofs.«01_k».proof.Defs

@[expose] public section

set_option maxRecDepth 16384

noncomputable section

namespace Cert.Proof.Kv

open Cert.KvIdeal Cert.KvIdeal.Gen Cert.KvIdeal.Value Idealize.ShloMosaic Idealize.ShloMosaic.TcCoe Idealize.SL.Sem

/-- The product of the activations with the weight columns that the kernel is given. -/
def G (a : Vec Ideal S2048x1024 .bf16) (w : Vec Ideal S1024x2048 .bf16) : Vec Ideal S2048x2048 .bf16 :=
  fun i => ∑ k : Fin 1024, a (ix2 (i 0) k) * w (ix2 k (i 1))

theorem hz : (![0, 0] : Fin 2 → Nat) = fun _ => 0 := funext fun a => by fin_cases a <;> rfl

/-- One block's result: the product of the two blocks. -/
theorem out_apply (x0 : Vec Ideal S1024x1024 .bf16) (x1 : Vec Ideal S1024x1024 .bf16) (y : S1024x1024.Idx) :
    out0_2 x0 x1 y = ∑ k : Fin 1024, x0 (ix2 (y 0) k) * x1 (ix2 k (y 1)) := by
  unfold out0_2
  rw [View.canon_unit_zero hz, View.ld_unit_zero hz, View.ld_unit_zero hz]
  idx_vars y
  pointwise [k0_pay1]
  try rfl

variable (m : (ℓ : Loc nD τ sig) → Buf (Elt Ideal) ℓ) (ρ : Dev nD → PrngReg)

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 2 :=
  (by decide +kernel : ∀ t : Fin grid0.N, _)
theorem idx2 : ∀ t : Fin cfg0.N, win0_2.index t (0 : Fin 2) = t.val % 2 ∧ win0_2.index t (1 : Fin 2) = t.val / 2 :=
  (by decide +kernel : ∀ t : Fin grid0.N, _)

/-- What a point writes back is its block of the product. -/
theorem flushed2_eq (c : Dev nD) (t : Fin cfg0.N) :
    (dats m 0 c).flushed 2 t
      = ((cfg0.win 2).blk t).view.read (Elt Ideal) (G (V m c main_v1) (V m c main_v3)) := by
  rw [flushed2]
  funext j
  obtain ⟨a0, a1⟩ := idx0 t
  obtain ⟨b0, b1⟩ := idx1 t
  obtain ⟨c0, c1⟩ := idx2 t
  show out0_2 (iblk m c 0 t) (iblk m c 1 t) j
    = G (V m c main_v1) (V m c main_v3) (((cfg0.win 2).blk t).view.emb j)
  rw [out_apply]
  unfold G
  refine Finset.sum_congr rfl fun k _ => congrArg₂ (· * ·) ?_ ?_
  · show V m c main_v1 (((cfg0.win 0).blk t).view.emb (ix2 (j 0) k)) = _
    refine congrArg _ (funext fun a => Fin.ext ?_)
    match a with
    | ⟨0, _⟩ =>
      show win0_0.index t (0 : Fin 2) * 1024 + 1 * (j 0).val = win0_2.index t (0 : Fin 2) * 1024 + 1 * (j 0).val
      rw [a0, c0]
    | ⟨1, _⟩ => show win0_0.index t (1 : Fin 2) * 1024 + 1 * k.val = k.val; rw [a1]; omega
  · show V m c main_v3 (((cfg0.win 1).blk t).view.emb (ix2 k (j 1))) = _
    refine congrArg _ (funext fun a => Fin.ext ?_)
    match a with
    | ⟨0, _⟩ => show win0_1.index t (0 : Fin 2) * 1024 + 1 * k.val = k.val; rw [b0]; omega
    | ⟨1, _⟩ =>
      show win0_1.index t (1 : Fin 2) * 1024 + 1 * (j 1).val = win0_2.index t (1 : Fin 2) * 1024 + 1 * (j 1).val
      rw [b1, c1]

/-- Every element of the array is in some point's block. -/
theorem covered2 (i : S2048x2048.Idx) :
    ∃ t : Fin cfg0.N, (cfg0.win 2).flush t = true ∧ i ∈ ((cfg0.win 2).blk t).view.set := by
  have h0 : (i 0).val < 2048 := (i 0).isLt
  have h1 : (i 1).val < 2048 := (i 1).isLt
  refine ⟨(⟨(i 1).val / 1024 * 2 + (i 0).val / 1024, by rw [show cfg0.N = 4 from N_0]; omega⟩ : Fin cfg0.N), flush0_2 _, ?_⟩
  generalize ht : (⟨(i 1).val / 1024 * 2 + (i 0).val / 1024, _⟩ : Fin cfg0.N) = t
  have hv : t.val = (i 1).val / 1024 * 2 + (i 0).val / 1024 := by rw [← ht]
  obtain ⟨c0, c1⟩ := idx2 t
  have h := ((cfg0.win 2).blk t).view.emb_mem_set
    (ix2 (⟨(i 0).val % 1024, by omega⟩ : Fin 1024) (⟨(i 1).val % 1024, by omega⟩ : Fin 1024))
  have e : ((cfg0.win 2).blk t).view.emb
    (ix2 (⟨(i 0).val % 1024, by omega⟩ : Fin 1024) (⟨(i 1).val % 1024, by omega⟩ : Fin 1024)) = i := by
    refine funext fun a => Fin.ext ?_
    match a with
    | ⟨0, _⟩ => show win0_2.index t (0 : Fin 2) * 1024 + 1 * ((i 0).val % 1024) = (i 0).val; rw [c0, hv]; omega
    | ⟨1, _⟩ => show win0_2.index t (1 : Fin 2) * 1024 + 1 * ((i 1).val % 1024) = (i 1).val; rw [c1, hv]; omega
  rwa [e] at h

/-- The array after the run. -/
theorem final2 (c : Dev nD) : (dats m 0 c).arrAt 2 cfg0.N = G (V m c main_v1) (V m c main_v3) :=
  (dats m 0 c).arrAt_eq_of_cover 2 (G (V m c main_v1) (V m c main_v3)) (fun t _ => flushed2_eq m c t) covered2

/-- The memory and the position of a row of the flat memories. -/
def part (r : Fin 2048) : Fin 8 := ⟨r.val / 256, by omega⟩
def pos (r : Fin 2048) : Fin 256 := ⟨r.val % 256, by omega⟩

/-- A column of the two weight matrices side by side. -/
def col (wk wv : S1024x1024.Idx → EReal) (k : Fin 1024) (j : Fin 2048) : EReal :=
  if h : j.val < 1024 then wk (ix2 k ⟨j.val, h⟩) else wv (ix2 k ⟨j.val - 1024, by omega⟩)

/-- The activations that the kernel is given: the memories with their rows in one axis. -/
theorem V_v1 (c : Dev nD) (r : Fin 2048) (k : Fin 1024) :
    V m c main_v1 (ix2 r k) = m ((c : Thread nD τ).loc main_arg0) (ix3 (part r) (pos r) k) := by
  show StableHlo.after hostOps0 (fun b => m (c, b)) main_v1 (ix2 r k) = _
  after_results
  refine shapeCast_apply _ shapeCasts_S8x256x1024_S2048x1024 (ix2 r k) (ix3 (part r) (pos r) k) ?_
  rewrite [Shape.rowMajor_val_three, Shape.rowMajor_val_two]
  show (r.val / 256 * 256 + r.val % 256) * 1024 + k.val = r.val * 1024 + k.val
  omega

/-- The weights that the kernel is given: the two matrices side by side. -/
theorem V_v3 (c : Dev nD) (k : Fin 1024) (j : Fin 2048) :
    V m c main_v3 (ix2 k j) = col (m ((c : Thread nD τ).loc main_arg1)) (m ((c : Thread nD τ).loc main_arg2)) k j := by
  show StableHlo.after hostOps0 (fun b => m (c, b)) main_v3 (ix2 k j) = _
  after_results
  pointwise [col]

section Reference

open Cert.KvRefIdeal.Read

variable (x : Vec Ideal Cert.KvRefIdeal.S8x256x1024 .f32) (wk wv : Vec Ideal Cert.KvRefIdeal.S1024x1024 .f32)

theorem ref_k (r : Fin 2048) (j : Fin 1024) :
    val_main_v1 (F := Ideal) x wk (ix2 r j) = ∑ k : Fin 1024, x (ix3 (part r) (pos r) k) * wk (ix2 k j) := by
  rw [val_main_v1_apply]
  refine (congrArg (val_main_v0 (F := Ideal) x wk) (?_ : _ = ix3 (part r) (pos r) j)).trans ?_
  · refine funext fun a => Fin.ext ?_
    match a with
    | ⟨0, _⟩ => show (r.val * 1024 + j.val) / 262144 = r.val / 256; omega
    | ⟨1, _⟩ => show (r.val * 1024 + j.val) / 1024 % 256 = r.val % 256; omega
    | ⟨2, _⟩ => show (r.val * 1024 + j.val) % 1024 = j.val; omega
  · pointwise [val_main_v0]

/-- The values' product is the keys' with the other matrix. -/
theorem ref_v : val_main_v3 (F := Ideal) x wv = val_main_v1 (F := Ideal) x wv := rfl

/-- The reference's term at a row and a column is the same product. -/
theorem ref_apply (r : Fin 2048) (j : Fin 2048) :
    val_main_v5 (F := Ideal) x wk wv (ix2 r j) = ∑ k : Fin 1024, x (ix3 (part r) (pos r) k) * col wk wv k j := by
  have e : val_main_v5 (F := Ideal) x wk wv (ix2 r j)
      = if h : j.val < 1024 then val_main_v1 (F := Ideal) x wk (ix2 r ⟨j.val, h⟩)
        else val_main_v3 (F := Ideal) x wv (ix2 r ⟨j.val - 1024, by omega⟩) := by
    pointwise [val_main_v5, val_main_v4]
  rw [e]
  unfold col
  split
  · exact ref_k x wk r _
  · rw [ref_v]
    exact ref_k x wv r _

end Reference

/-- The two results are one array. -/
theorem result_eq (c : Dev nD) : Cert.KvRefIdeal.Read.val_main_v5 (F := Ideal) (m ((c : Thread nD τ).loc main_arg0))
    (m ((c : Thread nD τ).loc main_arg1)) (m ((c : Thread nD τ).loc main_arg2)) = (dats m 0 c).arrAt 2 cfg0.N := by
  rw [final2]
  funext i
  idx_vars i
  rw [ref_apply]
  unfold G
  exact Finset.sum_congr rfl fun k _ => congrArg₂ (· * ·) (V_v1 m c i0 k).symm (V_v3 m c k i1).symm

theorem frame_ref : Cert.quiescent_KvRefIdeal := fun m ρ _ =>
  (θ_run Cert.KvRefIdeal.defs _ _).mono (fun r h => ⟨fun c => (h c).2,
      Idealize.ShloMosaic.sem_eq_zero_of_no_sems (by decide) r.2⟩)
    (Cert.KvRefIdeal.Value.run (F := Ideal) m ρ)

/-- From memories that agree on the arguments the kernel and the reference end with one result. -/
theorem algebraic : Cert.algebraic_KvIdeal_KvRefIdeal := fun m ρ m' ρ' _ hag =>
  ⟨fun c => (dats m 0 c).arrAt 2 cfg0.N, run_blocks m ρ,
    (θ_run Cert.KvRefIdeal.defs _ _).mono (fun r h c => ⟨by
        obtain ⟨h0, h1, h2⟩ := hag c
        refine (h c).1.trans ((Cert.KvRefIdeal.Read.val_main_v5_eq _ _ _).trans ?_)
        rw [h0, h1, h2]
        exact result_eq m c, (h c).2⟩)
      (Cert.KvRefIdeal.Value.run (F := Ideal) m' ρ')⟩

end Cert.Proof.Kv
-- ==== Proof.Take.lean ====
/-
  The gather of `table[idx]` by one index per tile, read at an index, for tables of two and of three axes.
-/
module

public import Idealize.ShloMosaic.Lib.ValueIdx
public import Idealize.ShloMosaic.Lib.Pointwise

@[expose] public section

namespace Cert.Proof.Take

open Idealize.ShloMosaic

variable {α : Type}

/-- The start index of tile `t`. -/
abbrev tileIdx {B : Nat} (t : Fin B) : (⟨2, ![B, 1]⟩ : Shape).Idx := ix2 t (0 : Fin 1)

/-- The dimension numbers of `table[idx]` for a table `[N, C]` and indices `[B, 1]`. -/
abbrev dims2 (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `t` of the result is the table's row at index `t`, clamped. -/
theorem take2 {N C B w : Nat} (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (t : Fin B) (j : Fin C) :
    Host.gather (dims2 N C B wf) x idx (ix2 t j) = x (ix2 (⟨min (idx (tileIdx t)).toInt.toNat (N - 1), by omega⟩ : Fin N) j) := by
  unfold Host.gather
  congr 1
  funext a
  refine Fin.ext ?_
  show (dims2 N C B wf).start (ix2 t j) idx a + (dims2 N C B wf).batchCoord (ix2 t j) a + (dims2 N C B wf).offCoord (ix2 t j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C B wf).startIndexMap from List.mem_singleton.mpr rfl)]
    have hsi : (dims2 N C B wf).siIdx (ix2 t j) ⟨List.idxOf (0 : Fin 2) (dims2 N C B wf).startIndexMap,
        List.idxOf_lt_length_iff.2 (List.mem_singleton.mpr rfl)⟩ = tileIdx t := by
      funext b; refine Fin.ext ?_
      match b with
      | ⟨0, _⟩ => rfl
      | ⟨1, _⟩ => rfl
    rw [hsi]
    rfl
  · unfold GatherDims.start
    rw [dif_neg (show (1 : Fin 2) ∉ (dims2 N C B wf).startIndexMap by simp)]
    simp only [Nat.zero_add, Nat.add_zero]
    unfold GatherDims.offCoord
    rfl

/-- The dimension numbers of `table[idx]` for a table `[N, R, C]` and indices `[B, 1]`. -/
abbrev dims3 (N R C B : Nat) (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Slab `t` of the result is the table's slab at index `t`, clamped. -/
theorem take3 {N R C B w : Nat} (hN : 0 < N) (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (t : Fin B) (k : Fin R) (j : Fin C) :
    Host.gather (dims3 N R C B wf) x idx (ix3 t k j) = x (ix3 (⟨min (idx (tileIdx t)).toInt.toNat (N - 1), by omega⟩ : Fin N) k j) := by
  unfold Host.gather
  congr 1
  funext a
  refine Fin.ext ?_
  show (dims3 N R C B wf).start (ix3 t k j) idx a + (dims3 N R C B wf).batchCoord (ix3 t k j) a + (dims3 N R C B wf).offCoord (ix3 t k j) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N R C B wf).startIndexMap from List.mem_singleton.mpr rfl)]
    have hsi : (dims3 N R C B wf).siIdx (ix3 t k j) ⟨List.idxOf (0 : Fin 3) (dims3 N R C B wf).startIndexMap,
        List.idxOf_lt_length_iff.2 (List.mem_singleton.mpr rfl)⟩ = tileIdx t := by
      funext b; refine Fin.ext ?_
      match b with
      | ⟨0, _⟩ => rfl
      | ⟨1, _⟩ => rfl
    rw [hsi]
    rfl
  · unfold GatherDims.start
    rw [dif_neg (show (1 : Fin 3) ∉ (dims3 N R C B wf).startIndexMap by simp)]
    simp only [Nat.zero_add, Nat.add_zero]
    unfold GatherDims.offCoord
    rfl
  · unfold GatherDims.start
    rw [dif_neg (show (2 : Fin 3) ∉ (dims3 N R C B wf).startIndexMap by simp)]
    simp only [Nat.zero_add, Nat.add_zero]
    unfold GatherDims.offCoord
    rfl

end Cert.Proof.Take
-- ==== Proof.ExpertsIdealLaunch.lean ====
/- The launch of the experts kernel (`Cert.ExpertsIdeal`): what the pipeline finds, what the body leaves in the output's
   block at each point, the run, and the frame. The two tables — the expert of each tile, and the number of
   used tiles — are read off the launch memory; everything holds whenever every window they place lies inside
   its array (`Ok`). The body runs one of two ways: on a used tile it computes the expert, past the used tiles
   it stores zeros. Both ways it fills the whole block. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.ExpertsIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.ExpertsIdeal Cert.ExpertsIdeal.Gen

variable {F : FTy → Type} [FloatOps F]

/-- The assertions the run is stated in. -/
abbrev PropM (F : FTy → Type) : Type := sProp (MT nD τ sig Unit (Elt F) ℕ (UR sig nD τ) ℕ)

variable (m : (ℓ : Loc nD τ sig) → Buf (Elt F) ℓ) (ρ : Dev nD → PrngReg)

/-! ## What the region finds -/

/-- Core `c`'s buffers when the kernel starts: after the casts and reshapes before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- `main` is its host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the host operations do not write is found as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) :=
  V_kept m c main_arg0 (by decide) (by decide) (by decide) (by decide)
theorem V_main_arg1 (c : Dev nD) : V m c main_arg1 = m ((c : Thread nD τ).loc main_arg1) :=
  V_kept m c main_arg1 (by decide) (by decide) (by decide) (by decide)
theorem V_main_arg2 (c : Dev nD) : V m c main_arg2 = m ((c : Thread nD τ).loc main_arg2) :=
  V_kept m c main_arg2 (by decide) (by decide) (by decide) (by decide)
theorem V_main_arg3 (c : Dev nD) : V m c main_arg3 = m ((c : Thread nD τ).loc main_arg3) :=
  V_kept m c main_arg3 (by decide) (by decide) (by decide) (by decide)
theorem V_main_arg4 (c : Dev nD) : V m c main_arg4 = m ((c : Thread nD τ).loc main_arg4) :=
  V_kept m c main_arg4 (by decide) (by decide) (by decide) (by decide)
theorem V_main_arg5 (c : Dev nD) : V m c main_arg5 = m ((c : Thread nD τ).loc main_arg5) :=
  V_kept m c main_arg5 (by decide) (by decide) (by decide) (by decide)
theorem V_main_arg6 (c : Dev nD) : V m c main_arg6 = m ((c : Thread nD τ).loc main_arg6) :=
  V_kept m c main_arg6 (by decide) (by decide) (by decide) (by decide)

/-! ## The tables -/

/-- The tables' contents (there is one device: its). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window that a table places lies inside its array. -/
abbrev Ok : Prop := ok0 (F := F) (tbl m)
/-- The tables as contents the pipeline runs at, and the pipeline at them. -/
abbrev adm (hO : Ok m) : (pcfg0 (F := F)).Adm := ⟨tbl m, hO⟩
abbrev cfgM (hO : Ok m) : Pipeline.Cfg sig Λ₀ := cfg0 (adm m hO)

/-- Each table as the body gets it: a whole buffer. -/
abbrev tile_expert : Memref sig .tc .smem S544 .i32 := Memref.whole main_arg0
abbrev n_used : Memref sig .tc .smem S1 .i32 := Memref.whole main_arg1
/-- A table's contents on core `c`, and the table held there for reading. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : PropM F :=
  M.view.loc (c : Thread nD τ) ↦{fullShare.right} f

/-- What the region hands the body of the tables, one by one. -/
theorem tables_eq (c : Dev nD) : (Pipeline.ΦT pre0 (tbl m) c : PropM F) = iprop(tabPt c tile_expert (tbl m 0) ∗ tabPt c n_used (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The tables in range -/

/-- The number of used tiles, off the table's contents. -/
abbrev used (pf : pre0.Contents (Elt F)) : BitVec 32 := pf.atD 1 ![0]
/-- The tile's own word of the expert table. -/
abbrev ownTile (i : grid0.Coords) : S544.Idx := fun d => match d with | ⟨0, _⟩ => ⟨(i 0).val, (i 0).isLt⟩
theorem emb_own (i : grid0.Coords) (h : 0 < S1.numel) :
    (Rect.unit (s := S544) ![(Scalar.indexCast (BitVec.ofNat 32 (i 0).val)).toNat] S1.size (k0_off1_inb i)).emb (Shape.Idx.first (s := S1) h) = ownTile i := by
  have e := congrFun (k0_off1_eq i) 0
  funext a; obtain rfl : a = 0 := Subsingleton.elim _ _
  refine Fin.ext ?_
  show (k0_off1 i) 0 + 1 * 0 = (i 0).val
  rw [e]; rfl
theorem emb_one (h : 0 < S1.numel) (j : S1.Idx) : (Rect.unit (s := S1) ![0] S1.size inb_S1_S1_0).emb (Shape.Idx.first (s := S1) h) = j := by
  funext a; obtain rfl : a = 0 := Subsingleton.elim _ _
  refine Fin.ext ?_
  have := (j 0).isLt
  show 0 + 1 * 0 = (j 0).val
  have : S1.size 0 = 1 := rfl
  omega
/-- The one used-tiles word. -/
abbrev oneIdx : S1.Idx := fun d => match d with | ⟨0, _⟩ => (⟨0, Nat.one_pos⟩ : Fin 1)
theorem at0 (pf : pre0.Contents (Elt F)) (i : grid0.Coords) :
    pf.at 0 (Rect.unit (s := S544) ![(Scalar.indexCast (BitVec.ofNat 32 (i 0).val)).toNat] S1.size (k0_off1_inb i)) numel1_S1 = pf 0 (ownTile i) :=
  congrArg (pf 0) (emb_own i _)
theorem at1 (pf : pre0.Contents (Elt F)) :
    pf.at 1 (Rect.unit (s := S1) ![0] S1.size inb_S1_S1_0) numel1_S1 = pf 1 oneIdx :=
  congrArg (pf 1) (emb_one _ _)
theorem used_eq (pf : pre0.Contents (Elt F)) : used pf = pf 1 oneIdx := at1 pf
theorem tr0 (pf : pre0.Contents (Elt F)) (i : grid0.Coords) : cc0_transform_0 inb_S1_S1_0 numel1_S1 pf i =
    ![(Scalar.minsi (BitVec.ofNat 32 (i 0).val) (Scalar.subi (pf 1 oneIdx : BitVec 32) 1#32)).toNat, 0] := by
  unfold cc0_transform_0; rw [at1]; rfl
theorem tr1 (pf : pre0.Contents (Elt F)) (i : grid0.Coords) : cc0_transform_1 k0_off1_inb numel1_S1 pf i = ![(pf 0 (ownTile i) : BitVec 32).toNat, 0, 0] := by
  unfold cc0_transform_1; dsimp only; rw [at0]; rfl
theorem tr2 (pf : pre0.Contents (Elt F)) (i : grid0.Coords) : cc0_transform_2 k0_off1_inb numel1_S1 pf i = ![(pf 0 (ownTile i) : BitVec 32).toNat, 0, 0] := tr1 pf i
theorem tr3 (pf : pre0.Contents (Elt F)) (i : grid0.Coords) : cc0_transform_3 k0_off1_inb numel1_S1 pf i = ![(pf 0 (ownTile i) : BitVec 32).toNat, 0, 0] := tr1 pf i
theorem tr4 (pf : pre0.Contents (Elt F)) (i : grid0.Coords) : cc0_transform_4 k0_off1_inb numel1_S1 pf i = ![(pf 0 (ownTile i) : BitVec 32).toNat, 0, 0] := tr1 pf i

/-- A row block the first window reads is one of the 544. -/
theorem row_lt (n : ℕ) (hn : n < 544) (v : BitVec 32) (hv : 1 ≤ v.toInt) :
    (Scalar.minsi (BitVec.ofNat 32 n) (Scalar.subi v 1#32)).toNat < 544 := by
  have hv' : 1 ≤ v.toNat ∧ v.toNat < 2 ^ 31 := by
    rw [BitVec.toInt_eq_toNat_cond] at hv; have := v.isLt; split at hv <;> omega
  unfold Scalar.minsi IntOp.minsi Scalar.subi IntOp.subi
  split
  · rw [BitVec.toNat_ofNat]; omega
  · next h =>
    rw [Bool.not_eq_true, BitVec.slt_eq_decide, decide_eq_false_iff_not, BitVec.toInt_eq_toNat_cond, BitVec.toInt_eq_toNat_cond] at h
    have h2 : (v - 1#32).toNat = v.toNat - 1 := by bv_omega
    rw [h2, BitVec.toNat_ofNat] at h
    rw [h2]
    omega

/-- With every tile's expert among the 32 and at least one used tile, every window lies inside its array. -/
theorem ok_of (he : ∀ i, (tbl m 0 i : BitVec 32).toNat < 32) (hn : ∀ i, 1 ≤ (tbl m 1 i : BitVec 32).toInt) : Ok m := by
  unfold Ok ok0
  refine ⟨fun i => ⟨Fin.forall_fin_two.mpr ⟨?_, ?_⟩, .inl rfl⟩,
    fun i => ⟨Fin.forall_fin_succ.mpr ⟨?_, Fin.forall_fin_two.mpr ⟨?_, ?_⟩⟩, .inr (Affine.block_words_dvd (of_decide_eq_true rfl) (by decide))⟩,
    fun i => ⟨Fin.forall_fin_succ.mpr ⟨?_, Fin.forall_fin_two.mpr ⟨?_, ?_⟩⟩, .inl rfl⟩,
    fun i => ⟨Fin.forall_fin_succ.mpr ⟨?_, Fin.forall_fin_two.mpr ⟨?_, ?_⟩⟩, .inr (Affine.block_words_dvd (of_decide_eq_true rfl) (by decide))⟩,
    fun i => ⟨Fin.forall_fin_succ.mpr ⟨?_, Fin.forall_fin_two.mpr ⟨?_, ?_⟩⟩, .inl rfl⟩⟩
  · have := row_lt (i 0).val (i 0).isLt _ (hn oneIdx)
    rw [tr0]
    show (_ + 1) * 256 ≤ 139264
    exact (Nat.mul_le_mul_right 256 (Nat.succ_le_of_lt this)).trans (by decide)
  · rw [tr0]; show (0 + 1) * 1024 ≤ 1024; decide
  · rw [tr1]; have := he (ownTile i); show (_ + 1) * 1 ≤ 32; exact (Nat.mul_le_mul_right 1 (Nat.succ_le_of_lt this)).trans (by decide)
  · rw [tr1]; show (0 + 1) * 1024 ≤ 1024; decide
  · rw [tr1]; show (0 + 1) * 2048 ≤ 2048; decide
  · rw [tr2]; have := he (ownTile i); show (_ + 1) * 1 ≤ 32; exact (Nat.mul_le_mul_right 1 (Nat.succ_le_of_lt this)).trans (by decide)
  · rw [tr2]; show (0 + 1) * 1 ≤ 1; decide
  · rw [tr2]; show (0 + 1) * 2048 ≤ 2048; decide
  · rw [tr3]; have := he (ownTile i); show (_ + 1) * 1 ≤ 32; exact (Nat.mul_le_mul_right 1 (Nat.succ_le_of_lt this)).trans (by decide)
  · rw [tr3]; show (0 + 1) * 1024 ≤ 1024; decide
  · rw [tr3]; show (0 + 1) * 1024 ≤ 1024; decide
  · rw [tr4]; have := he (ownTile i); show (_ + 1) * 1 ≤ 32; exact (Nat.mul_le_mul_right 1 (Nat.succ_le_of_lt this)).trans (by decide)
  · rw [tr4]; show (0 + 1) * 1 ≤ 1; decide
  · rw [tr4]; show (0 + 1) * 1024 ≤ 1024; decide

/-! ## The inputs' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input's staging buffer holds its block at every point, for proof data over those arrays whose body
    leaves the block in place. -/

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- A tile past the used ones is exactly one that is not below them. -/
theorem cond2_iff (i : grid0.Coords) (v : BitVec 32) : k0_cond2 i v = 1#1 ↔ ¬ k0_cond1 i v = 1#1 := by
  unfold k0_cond1 k0_cond2
  simp only [Scalar.cmpi, Scalar.extui, IntOp.cmpi]
  rw [BitVec.sle_eq_not_slt]
  cases (BitVec.ofNat 32 (i 0).val).slt v <;> decide

/-- What the body leaves in the output's block: the expert's result on a used tile, zeros past them. -/
def tile (i : grid0.Coords) (v : BitVec 32) (x0 : Vec F S256x1024 .f32) (x1 : Vec F S1x1024x2048 .bf16) (x2 : Vec F S1x1x2048 .f32)
    (x3 : Vec F S1x1024x1024 .bf16) (x4 : Vec F S1x1x1024 .f32) : Vec F S256x1024 .f32 :=
  if k0_cond1 i v = 1#1 then k0_pay1 (k0_pay3 x0 x1 x2 x3) (k0_pay4 x4) else k0_pay2

set_option maxHeartbeats 1000000 in
/-- The body on whole staging buffers: it leaves the inputs and the tables as they were, and `tile` in the output. -/
theorem body_run (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .f32) (x1 : Vec F S1x1024x2048 .bf16) (x2 : Vec F S1x1x2048 .f32) (x3 : Vec F S1x1024x1024 .bf16) (x4 : Vec F S1x1x1024 .f32) (pf : pre0.Contents (Elt F))
    (E : Set ℕ) (K : PUnit → PropM F) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tabPt c tile_expert (pf 0) ∗ tabPt c n_used (pf 1)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tile i (used pf) x0 x1 x2 x3 x4) ∗ tabPt c tile_expert (pf 0) ∗ tabPt c n_used (pf 1)) -∗ K ⟨⟩))
          ⊢ wp frame (wpE (defs₀ (F := F)) Variants.none c none) E (cc0_moe_experts i tile_expert (Memref.isWhole_whole _) n_used (Memref.isWhole_whole _) arg3 harg3 arg4 harg4 arg5 harg5 arg6 harg6 arg7 harg7 arg8 harg8) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg3.eq_unread hf0; obtain rfl := harg4.eq_unread hf1; obtain rfl := harg5.eq_unread hf2; obtain rfl := harg6.eq_unread hf3; obtain rfl := harg7.eq_unread hf4
  by_cases hc : k0_cond1 i (used pf) = 1#1
  · have hc2 : ¬ k0_cond2 i (used pf) = 1#1 := fun h => (cond2_iff i _).mp h hc
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      unfold tile
      rw [if_pos hc]
      refine (View.read_writes_full arg8.view f5 _ _ []).trans ?_
      unfold body_run.sl.r_1 body_run.sl.r_2
      rw [View.readAt_full, View.readAt_full, View.readAt_full, View.readAt_full, View.readAt_full, hf0, hf1, hf2, hf3, hf4]
    isplitl [HT0]; · iexact HT0
    iexact HT1
  · have hc2 : k0_cond2 i (used pf) = 1#1 := (cond2_iff i _).mpr hc
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      unfold tile
      rw [if_neg hc]
      exact View.read_writes_full arg8.view f5 _ _ []
    isplitl [HT0]; · iexact HT0
    iexact HT1

/-! ## The proof data, the run and the frame -/

/-- What the output's staging buffer holds after point `t`. -/
def outAt (hO : Ok m) (c : Dev nD) (t : Fin (cfgM m hO).N) : Vec F S256x1024 .f32 :=
  tile (grid0.coords t) (used (tbl m)) (iblk m hO c 0 t) (iblk m hO c 1 t) (iblk m hO c 2 t) (iblk m hO c 3 t) (iblk m hO c 4 t)

/-- The pipeline on core `c`: the arrays as the region finds them, each input's block left in place, the output's block
    at `outAt`; nothing owed, full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outAt m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_of m hO (dats m hO 0 c) (A_eq m hO c 0) (after0_0 m hO c) t d
theorem before0_1 (hO : Ok m) (c : Dev nD) (t : Fin (cfgM m hO).N) (d) : (dats m hO 0 c).before 1 t d = iblk m hO c 1 t :=
  before1_of m hO (dats m hO 0 c) (A_eq m hO c 1) (after0_1 m hO c) t d
theorem before0_2 (hO : Ok m) (c : Dev nD) (t : Fin (cfgM m hO).N) (d) : (dats m hO 0 c).before 2 t d = iblk m hO c 2 t :=
  before2_of m hO (dats m hO 0 c) (A_eq m hO c 2) (after0_2 m hO c) t d
theorem before0_3 (hO : Ok m) (c : Dev nD) (t : Fin (cfgM m hO).N) (d) : (dats m hO 0 c).before 3 t d = iblk m hO c 3 t :=
  before3_of m hO (dats m hO 0 c) (A_eq m hO c 3) (after0_3 m hO c) t d
theorem before0_4 (hO : Ok m) (c : Dev nD) (t : Fin (cfgM m hO).N) (d) : (dats m hO 0 c).before 4 t d = iblk m hO c 4 t :=
  before4_of m hO (dats m hO 0 c) (A_eq m hO c 4) (after0_4 m hO c) t d

/-- Each window's staging buffer at point `t`. -/
abbrev ms0_0 (hO : Ok m) (t : Fin (cfgM m hO).N) : Memref sig .tc .vmem S256x1024 .f32 := spec0_0.stage ((cfgM m hO).slots t 0)
abbrev ms0_1 (hO : Ok m) (t : Fin (cfgM m hO).N) : Memref sig .tc .vmem S1x1024x2048 .bf16 := spec0_1.stage ((cfgM m hO).slots t 1)
abbrev ms0_2 (hO : Ok m) (t : Fin (cfgM m hO).N) : Memref sig .tc .vmem S1x1x2048 .f32 := spec0_2.stage ((cfgM m hO).slots t 2)
abbrev ms0_3 (hO : Ok m) (t : Fin (cfgM m hO).N) : Memref sig .tc .vmem S1x1024x1024 .bf16 := spec0_3.stage ((cfgM m hO).slots t 3)
abbrev ms0_4 (hO : Ok m) (t : Fin (cfgM m hO).N) : Memref sig .tc .vmem S1x1x1024 .f32 := spec0_4.stage ((cfgM m hO).slots t 4)
abbrev ms0_5 (hO : Ok m) (t : Fin (cfgM m hO).N) : Memref sig .tc .vmem S256x1024 .f32 := spec0_5.stage ((cfgM m hO).slots t 5)

/-- The body as the pipeline calls it at point `t`. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- What the body is called with at point `t`, -/
def bodyPre (hO : Ok m) (c : Dev nD) (t : Fin (cfgM m hO).N) : PropM F :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : PropM F :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: its inputs hold their blocks, so `body_run` applies. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t) (tbl m) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output's window is never left untouched: one of the two conditions holds. -/
theorem idle0_5 (pf : pre0.Contents (Elt F)) (i : grid0.Coords) : idle0 pf 5 i = false :=
  (by decide : ∀ b1 b2 : BitVec 1, (b2 = 1#1 ↔ ¬ b1 = 1#1) → (!(b1 == 1#1) && !(b2 == 1#1)) = false) _ _ (cond2_iff i (used pf))
set_option maxHeartbeats 4000000 in
theorem not_idle (hO : Ok m) (t : Fin (cfgM m hO).N) : (cfgM m hO).idle 5 ((cfgM m hO).grid.coords t) = false :=
  idle0_5 (tbl m) (grid0.coords t)

/-- So it is left at what the body stores. -/
theorem leaves5 (hO : Ok m) (c : Dev nD) (t : Fin (cfgM m hO).N) :
    (dats m hO 0 c).leavesExact 5 t = (owns (c : Thread nD τ) (ms0_5 m hO t) fullShare ((dats m hO 0 c).after 5 t) : PropM F) := by
  unfold Dat.leavesExact; rw [not_idle]; rfl

set_option maxHeartbeats 4000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => by
    show bodyPost m hO c t ⊢ iprop((dats m hO 0 c).Φ t.succ ∗ (dats m hO 0 c).owesAt () t.succ
      ∗ owns (c : Thread nD τ) (ms0_0 m hO t) fullShare ((dats m hO 0 c).after 0 t)
      ∗ owns (c : Thread nD τ) (ms0_1 m hO t) fullShare ((dats m hO 0 c).after 1 t)
      ∗ owns (c : Thread nD τ) (ms0_2 m hO t) fullShare ((dats m hO 0 c).after 2 t)
      ∗ owns (c : Thread nD τ) (ms0_3 m hO t) fullShare ((dats m hO 0 c).after 3 t)
      ∗ owns (c : Thread nD τ) (ms0_4 m hO t) fullShare ((dats m hO 0 c).after 4 t)
      ∗ (dats m hO 0 c).leavesExact 5 t)
    rw [leaves5]
    exact .rfl

-- the implicit arguments are found through plain definitions in a type
set_option backward.isDefEq.respectTransparency.types false in
/-- The run: every array ends at what the pipeline's data say, every other buffer as found, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- What a final state says of the arguments. -/
theorem kept_of (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩

/-- The frame: the arguments end as they were, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept_of m hO h.1, h.2⟩) (run_main_quiescent m ρ hO)

end Cert.ExpertsIdeal.Launch

end
-- ==== Proof.ExpertsTables.lean ====
/-
  What the precondition says: every tile's expert is one of the 32, and at least one tile is used.
-/
module

public import proofs.«01_k».proof.Defs
public import proofs.«01_k».proof.Proof.Gen.Pre_tables_ok
public import proofs.«01_k».proof.Proof.ExpertsLaunch
public import proofs.«01_k».proof.Proof.ExpertsIdealLaunch
public import Idealize.ShloMosaic.Lib.ReduceAll

@[expose] public section

namespace Cert.Proof.Experts

open Idealize.ShloMosaic Idealize.ShloMosaic.TcCoe

attribute [local instance] Cert.Pre_tables_ok.Gen.facts

instance : Subsingleton Cert.Pre_tables_ok.S_.Idx := ⟨fun a b => funext fun d => d.elim0⟩

variable {F : FTy → Type} [FloatOps F]

/-- The precondition's words, decoded. -/
theorem in_range (a0 : IVec Cert.Pre_tables_ok.S544 32) (a1 : IVec Cert.Pre_tables_ok.S1 32) (a2 : FVec F Cert.Pre_tables_ok.S139264x1024 .f32)
    (a3 : FVec F Cert.Pre_tables_ok.S32x1024x2048 .f32) (a4 : FVec F Cert.Pre_tables_ok.S32x2048 .f32)
    (a5 : FVec F Cert.Pre_tables_ok.S32x1024x1024 .f32) (a6 : FVec F Cert.Pre_tables_ok.S32x1024 .f32) (j : Cert.Pre_tables_ok.S_.Idx)
    (h : Cert.Pre_tables_ok.fn (F := F) a0 a1 a2 a3 a4 a5 a6 j = 1#1) :
    (∀ i, (a0 i).toNat < 32) ∧ ∀ i, 1 ≤ (a1 i).toInt := by
  unfold Cert.Pre_tables_ok.fn at h
  obtain ⟨h12, h3⟩ := IntOp.andi_eq_one.1 h
  obtain ⟨h1, h2⟩ := IntOp.andi_eq_one.1 h12
  refine ⟨fun i => ?_, fun i => ?_⟩
  · have l : (0#32 : BitVec 32).toInt ≤ (a0 i).toInt := IntOp.cmpi_sge.1 (Host.reduce_andi_all _ _ _ _ j h1 i)
    have u : (a0 i).toInt < (32#32 : BitVec 32).toInt := IntOp.cmpi_slt.1 (Host.reduce_andi_all _ _ _ _ j h2 i)
    rw [show (0#32 : BitVec 32).toInt = 0 from rfl] at l
    rw [show (32#32 : BitVec 32).toInt = 32 from rfl] at u
    rw [BitVec.toInt_eq_toNat_cond] at l u
    have := (a0 i).isLt
    split at l <;> omega
  · have l : (1#32 : BitVec 32).toInt ≤ (shapeCast Cert.Pre_tables_ok.S_ a1 Cert.Pre_tables_ok.Facts.shapeCasts_S1_S_ j).toInt := IntOp.cmpi_sge.1 h3
    have e : shapeCast Cert.Pre_tables_ok.S_ a1 Cert.Pre_tables_ok.Facts.shapeCasts_S1_S_ j = a1 i := by
      refine congrArg a1 (funext fun d => ?_)
      obtain rfl : d = 0 := Subsingleton.elim _ _
      exact Subsingleton.elim (α := Fin 1) _ _
    rw [e] at l
    exact l

/-- So the printed kernel's tables are in range. -/
theorem ok_K (m : (ℓ : Loc Cert.Experts.nD Cert.Experts.τ Cert.Experts.sig) → Buf (Elt Bits) ℓ) (h : Cert.Pre_Experts m) : Cert.Experts.Launch.Ok m := by
  obtain ⟨h0, h1⟩ := in_range _ _ _ _ _ _ _ (fun d => d.elim0) (congrFun (h 0) (fun d => d.elim0))
  exact Cert.Experts.Launch.ok_of m
    (fun i => by
      have e : (Cert.Experts.Launch.tbl m 0 : IVec Cert.Experts.S544 32) = _ := Cert.Experts.Launch.V_main_arg0 m 0
      exact (congrArg (fun f : IVec Cert.Experts.S544 32 => (f i).toNat) e).trans_lt (h0 i))
    (fun i => by
      have e : (Cert.Experts.Launch.tbl m 1 : IVec Cert.Experts.S1 32) = _ := Cert.Experts.Launch.V_main_arg1 m 0
      exact (h1 i).trans_eq (congrArg (fun f : IVec Cert.Experts.S1 32 => (f i).toInt) e).symm)

section Ideal
variable (m : (ℓ : Loc Cert.ExpertsIdeal.nD Cert.ExpertsIdeal.τ Cert.ExpertsIdeal.sig) → Buf (Elt Ideal) ℓ)

/-- The tables are the arguments. -/
theorem tbl0 : (Cert.ExpertsIdeal.Launch.tbl m 0 : IVec Cert.ExpertsIdeal.S544 32) = m (((0 : Dev Cert.ExpertsIdeal.nD).tc : Thread Cert.ExpertsIdeal.nD Cert.ExpertsIdeal.τ).loc Cert.ExpertsIdeal.main_arg0) :=
  Cert.ExpertsIdeal.Launch.V_main_arg0 m 0
theorem tbl1 : (Cert.ExpertsIdeal.Launch.tbl m 1 : IVec Cert.ExpertsIdeal.S1 32) = m (((0 : Dev Cert.ExpertsIdeal.nD).tc : Thread Cert.ExpertsIdeal.nD Cert.ExpertsIdeal.τ).loc Cert.ExpertsIdeal.main_arg1) :=
  Cert.ExpertsIdeal.Launch.V_main_arg1 m 0
/-- What the precondition says of the idealized kernel's tables. -/
theorem range_KI (h : Cert.Pre_ExpertsIdeal m) :
    (∀ i, (Cert.ExpertsIdeal.Launch.tbl m 0 i : BitVec 32).toNat < 32) ∧ ∀ i, 1 ≤ (Cert.ExpertsIdeal.Launch.tbl m 1 i : BitVec 32).toInt := by
  obtain ⟨h0, h1⟩ := in_range _ _ _ _ _ _ _ (fun d => d.elim0) (congrFun (h 0) (fun d => d.elim0))
  exact ⟨fun i => (congrArg (fun f : IVec Cert.ExpertsIdeal.S544 32 => (f i).toNat) (tbl0 m)).trans_lt (h0 i),
    fun i => (h1 i).trans_eq (congrArg (fun f : IVec Cert.ExpertsIdeal.S1 32 => (f i).toInt) (tbl1 m)).symm⟩
theorem ok_KI (h : Cert.Pre_ExpertsIdeal m) : Cert.ExpertsIdeal.Launch.Ok m :=
  Cert.ExpertsIdeal.Launch.ok_of m (range_KI m h).1 (range_KI m h).2
end Ideal

end Cert.Proof.Experts
-- ==== Proof.ExpertsValue.lean ====
/-
  The experts' value: one row through its tile's expert, in the kernel and in the reference; and the frames.
-/
module

public import proofs.«01_k».proof.Proof.Gen.ExpertsRefIdeal.Run
public import proofs.«01_k».proof.Proof.Gen.ExpertsRefIdeal.Read
public import proofs.«01_k».proof.Proof.Rows
public import proofs.«01_k».proof.Proof.Take
public import proofs.«01_k».proof.Proof.ExpertsTables

@[expose] public section

set_option maxRecDepth 16384

noncomputable section

namespace Cert.Proof.Experts

open Cert.ExpertsIdeal Cert.ExpertsIdeal.Gen Cert.ExpertsIdeal.Launch Idealize.ShloMosaic Idealize.ShloMosaic.TcCoe Idealize.SL.Sem
open Cert.Proof.Rows Cert.Proof.Take

/-- One column of the first projection with its bias. -/
def hid (x : Fin 1024 → EReal) (wgu : Fin 1024 → Fin 2048 → EReal) (bgu : Fin 2048 → EReal) (n : Fin 2048) : EReal :=
  ∑ k, x k * wgu k n + bgu n
/-- The clamped gate, the clamped linear half, and their product, from the first projection's columns. -/
def gate (h : Fin 2048 → EReal) (l : Fin 1024) : EReal := min (h (⟨l.val, by omega⟩ : Fin 2048)) (Ideal.ofBits .f32 0x40E00000#32)
def linear (h : Fin 2048 → EReal) (l : Fin 1024) : EReal :=
  min (Ideal.ofBits .f32 0x40E00000#32) (max (Ideal.ofBits .f32 0xC0E00000#32) (h (⟨1024 + l.val, by omega⟩ : Fin 2048)))
def act (h : Fin 2048 → EReal) (l : Fin 1024) : EReal :=
  (linear h l + 1) * (gate h l * sigm (Ideal.ofBits .f32 0x3FD9DB23#32 * gate h l))
/-- One row through one expert, at one column. -/
def expert (x : Fin 1024 → EReal) (wgu : Fin 1024 → Fin 2048 → EReal) (bgu : Fin 2048 → EReal) (wd : Fin 1024 → Fin 1024 → EReal)
    (bd : Fin 1024 → EReal) (j : Fin 1024) : EReal :=
  ∑ l, act (hid x wgu bgu) l * wd l j + bd j

theorem pay3_apply (x0 : Vec Ideal S256x1024 .f32) (x1 : Vec Ideal S1x1024x2048 .bf16) (x2 : Vec Ideal S1x1x2048 .f32) (x3 : Vec Ideal S1x1024x1024 .bf16)
    (y : Fin 256) (j : Fin 1024) :
    k0_pay3 x0 x1 x2 x3 (ix2 y j)
      = ∑ l, act (hid (fun k => x0 (ix2 y k)) (fun k n => x1 (ix3 0 k n)) (fun n => x2 (ix3 0 0 n))) l * x3 (ix3 0 l j) := by
  pointwise [k0_pay3, act, hid, gate, linear, sigm]
  simp only [zero_sub]

theorem pay1_apply (v : Vec Ideal S256x1024 .f32) (x4 : Vec Ideal S1x1x1024 .f32) (y : Fin 256) (j : Fin 1024) :
    k0_pay1 v (k0_pay4 x4) (ix2 y j) = v (ix2 y j) + x4 (ix3 0 0 j) := by
  pointwise [k0_pay1, k0_pay4]

theorem pay2_apply (y : Fin 256) (j : Fin 1024) : (k0_pay2 (F := Ideal)) (ix2 y j) = 0 := by
  pointwise [k0_pay2]

/-- The row of the arrays that tile `t` has at its row `y`. -/
def rowAt (t : Fin 544) (y : Fin 256) : Fin 139264 := ⟨t.val * 256 + y.val, by omega⟩

section Reference

open Cert.ExpertsRefIdeal Cert.ExpertsRefIdeal.Read

variable (te : IVec Cert.ExpertsRefIdeal.S544 32) (nu : IVec Cert.ExpertsRefIdeal.S1 32) (xs : Vec Ideal Cert.ExpertsRefIdeal.S139264x1024 .f32)
  (wgu : Vec Ideal Cert.ExpertsRefIdeal.S32x1024x2048 .f32) (bgu : Vec Ideal Cert.ExpertsRefIdeal.S32x2048 .f32)
  (wd : Vec Ideal Cert.ExpertsRefIdeal.S32x1024x1024 .f32) (bd : Vec Ideal Cert.ExpertsRefIdeal.S32x1024 .f32)
  (ht : ∀ i, (te i).toNat < 32) (t : Fin 544) (y : Fin 256) (j : Fin 1024)

/-- A tile's expert. -/
def exOf : Fin 32 := ⟨(te (ix1 t)).toNat, ht _⟩

/-- A word below 32 is not negative. -/
theorem sel (v w : BitVec 32) (hv : v.toNat < 32) : Scalar.select (IntOp.cmpi .slt v 0#32) w v = v := by
  have h : ¬ IntOp.cmpi .slt v 0#32 = 1#1 := by
    rw [IntOp.cmpi_slt, BitVec.toInt_eq_toNat_cond]
    show ¬ _ < (0 : ℤ)
    split <;> omega
  unfold Scalar.select
  exact if_neg h

/-- The clamp leaves such a word. -/
theorem clamp (v : BitVec 32) (hv : v.toNat < 32) (h : min v.toInt.toNat (32 - 1) < 32) : (⟨min v.toInt.toNat (32 - 1), h⟩ : Fin 32) = ⟨v.toNat, hv⟩ := by
  refine Fin.ext ?_
  show min v.toInt.toNat (32 - 1) = v.toNat
  rw [BitVec.toInt_eq_toNat_cond]
  split <;> omega

theorem take_eq {v : BitVec 32} (e : v = te (ix1 t)) (h : min v.toInt.toNat (32 - 1) < 32) : (⟨min v.toInt.toNat (32 - 1), h⟩ : Fin 32) = exOf te ht t := by
  subst e; exact clamp _ (ht _) h

include ht in
theorem v6_eq : val_main_v6 (F := Ideal) te (tileIdx t) = te (ix1 t) := by
  pointwise [val_main_v6, val_main_v5, val_main_v4, val_main_v3, val_main_v2, val_main_v1, val_main_c, val_main_c_0]
  exact sel _ _ (ht _)

theorem v7_eq (k : Fin 1024) (n : Fin 2048) : val_main_v7 (F := Ideal) te wgu (ix3 t k n) = wgu (ix3 (exOf te ht t) k n) := by
  refine (take3 (by decide) Cert.ExpertsRefIdeal.Gen.facts.gather_S32x1024x2048_S544x1_S544x1024x2048_12_0_n_n_0_1_110242048_wf _ _ _ _ _).trans ?_
  rw [take_eq te ht t (v6_eq te ht t)]

theorem v15_eq (n : Fin 2048) : val_main_v15 (F := Ideal) te bgu (ix2 t n) = bgu (ix2 (exOf te ht t) n) := by
  refine (take2 (by decide) Cert.ExpertsRefIdeal.Gen.facts.gather_S32x2048_S544x1_S544x2048_1_0_n_n_0_1_12048_wf _ _ _ _).trans ?_
  rw [take_eq te ht t (show val_main_v14 (F := Ideal) te (tileIdx t) = _ from v6_eq te ht t)]
theorem v42_eq (k n : Fin 1024) : val_main_v42 (F := Ideal) te wd (ix3 t k n) = wd (ix3 (exOf te ht t) k n) := by
  refine (take3 (by decide) Cert.ExpertsRefIdeal.Gen.facts.gather_S32x1024x1024_S544x1_S544x1024x1024_12_0_n_n_0_1_110241024_wf _ _ _ _ _).trans ?_
  rw [take_eq te ht t (show val_main_v41 (F := Ideal) te (tileIdx t) = _ from v6_eq te ht t)]
theorem v50_eq (n : Fin 1024) : val_main_v50 (F := Ideal) te bd (ix2 t n) = bd (ix2 (exOf te ht t) n) := by
  refine (take2 (by decide) Cert.ExpertsRefIdeal.Gen.facts.gather_S32x1024_S544x1_S544x1024_1_0_n_n_0_1_11024_wf _ _ _ _).trans ?_
  rw [take_eq te ht t (show val_main_v49 (F := Ideal) te (tileIdx t) = _ from v6_eq te ht t)]

theorem v0_eq (k : Fin 1024) : val_main_v0 (F := Ideal) xs (ix3 t y k) = xs (ix2 (rowAt t y) k) := by
  pointwise [val_main_v0]
  rfl

/-- The first projection of the reference. -/
theorem v18_eq (n : Fin 2048) : val_main_v18 (F := Ideal) te xs wgu bgu (ix3 t y n)
    = hid (fun k => xs (ix2 (rowAt t y) k)) (fun k n => wgu (ix3 (exOf te ht t) k n)) (fun n => bgu (ix2 (exOf te ht t) n)) n := by
  pointwise [val_main_v18, val_main_v17, val_main_v16, val_main_v8]
  simp only [v7_eq te wgu ht, v15_eq te bgu ht, v0_eq]
  rfl

theorem v35_eq (l : Fin 1024) : val_main_v35 (F := Ideal) te xs wgu bgu (ix3 t y l)
    = act (fun n => val_main_v18 (F := Ideal) te xs wgu bgu (ix3 t y n)) l := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst, val_main_cst_3, val_main_cst_4, val_main_cst_5, val_main_cst_6, val_main_cst_7, val_main_cst_8, val_main_call0_v0, val_main_call0_v1, val_main_call0_v2, val_main_call0_v3, val_main_call0_v4, act, gate, linear, sigm]
  rfl

theorem v53_eq : val_main_v53 (F := Ideal) te xs wgu bgu wd bd (ix3 t y j)
    = expert (fun k => xs (ix2 (rowAt t y) k)) (fun k n => wgu (ix3 (exOf te ht t) k n)) (fun n => bgu (ix2 (exOf te ht t) n))
        (fun k n => wd (ix3 (exOf te ht t) k n)) (fun n => bd (ix2 (exOf te ht t) n)) j := by
  pointwise [val_main_v53, val_main_v52, val_main_v51, val_main_v43]
  simp only [v42_eq te wd ht, v50_eq te bd ht, v35_eq, v18_eq te xs wgu bgu ht]
  rfl

theorem v59_eq : val_main_v59 (F := Ideal) te nu xs wgu bgu wd bd (ix2 (rowAt t y) j)
    = Scalar.select (IntOp.cmpi .slt (BitVec.ofNat 32 t.val) (nu (ix1 0))) (val_main_v53 (F := Ideal) te xs wgu bgu wd bd (ix3 t y j)) (0 : EReal) := by
  pointwise [val_main_v59, val_main_v58, val_main_v57, val_main_v56, val_main_v55, val_main_v54, val_main_call1_v0, val_main_call1_v1, val_main_call1_v2, val_main_cst_13]
  have e1 : (rowAt t y).val / 256 = t.val := by show (t.val * 256 + y.val) / 256 = t.val; omega
  have e2 : (rowAt t y).val % 256 = y.val := by show (t.val * 256 + y.val) % 256 = y.val; omega
  have e3 : (id (constant (F := Ideal) Cert.ExpertsRefIdeal.S_ FTy.f32 0#32) ix0 : EReal) = 0 := by
    show constant (F := Ideal) Cert.ExpertsRefIdeal.S_ FTy.f32 0#32 ix0 = (0 : EReal)
    pointwise
  simp only [e1, e2]
  rw [e3]

end Reference

/-! ## The kernel's blocks -/

variable (m : (ℓ : Loc nD τ sig) → Buf (Elt Ideal) ℓ) (ρ : Dev nD → PrngReg) (c : Dev nD)

/-- A tile's block: the expert on its rows if it is used, zeros if not. -/
theorem tile_apply (i : grid0.Coords) (v : BitVec 32) (x0 : Vec Ideal S256x1024 .f32) (x1 : Vec Ideal S1x1024x2048 .bf16) (x2 : Vec Ideal S1x1x2048 .f32)
    (x3 : Vec Ideal S1x1024x1024 .bf16) (x4 : Vec Ideal S1x1x1024 .f32) (y : Fin 256) (j : Fin 1024) :
    tile i v x0 x1 x2 x3 x4 (ix2 y j)
      = Scalar.select (IntOp.cmpi .slt (BitVec.ofNat 32 (i 0).val) v)
          (expert (fun k => x0 (ix2 y k)) (fun k n => x1 (ix3 0 k n)) (fun n => x2 (ix3 0 0 n)) (fun k n => x3 (ix3 0 k n)) (fun n => x4 (ix3 0 0 n)) j)
          (0 : EReal) := by
  have h1 : k0_cond1 i v = 1#1 ↔ IntOp.cmpi .slt (BitVec.ofNat 32 (i 0).val) v = 1#1 := by
    unfold k0_cond1
    simp only [Scalar.cmpi, Scalar.extui, IntOp.cmpi]
    cases (BitVec.ofNat 32 (i 0).val).slt v <;> decide
  unfold tile Scalar.select
  by_cases hc : IntOp.cmpi .slt (BitVec.ofNat 32 (i 0).val) v = 1#1
  · rw [if_pos (h1.mpr hc), pay1_apply, pay3_apply]
    exact (if_pos hc).symm
  · rw [if_neg (fun h => hc (h1.mp h)), pay2_apply]
    exact (if_neg hc).symm

/-! ## The operands that the host makes -/

theorem V_v0 (e : Fin 32) (k : Fin 1024) (n : Fin 2048) : V m c main_v0 (ix3 e k n) = m ((c : Thread nD τ).loc main_arg3) (ix3 e k n) := by
  show StableHlo.after hostOps0 (fun b => m (c, b)) main_v0 (ix3 e k n) = _
  after_results
  rfl
theorem V_v1 (e : Fin 32) (n : Fin 2048) : V m c main_v1 (ix3 e (0 : Fin 1) n) = m ((c : Thread nD τ).loc main_arg4) (ix2 e n) := by
  show StableHlo.after hostOps0 (fun b => m (c, b)) main_v1 (ix3 e (0 : Fin 1) n) = _
  after_results
  pointwise
theorem V_v2 (e : Fin 32) (k n : Fin 1024) : V m c main_v2 (ix3 e k n) = m ((c : Thread nD τ).loc main_arg5) (ix3 e k n) := by
  show StableHlo.after hostOps0 (fun b => m (c, b)) main_v2 (ix3 e k n) = _
  after_results
  rfl
theorem V_v3 (e : Fin 32) (n : Fin 1024) : V m c main_v3 (ix3 e (0 : Fin 1) n) = m ((c : Thread nD τ).loc main_arg6) (ix2 e n) := by
  show StableHlo.after hostOps0 (fun b => m (c, b)) main_v3 (ix3 e (0 : Fin 1) n) = _
  after_results
  pointwise

/-! ## The blocks -/

/-- An index of an array is given by its coordinates. -/
theorem eq_ix2_of {a b : Nat} (i : (⟨2, ![a, b]⟩ : Shape).Idx) (p : Fin a) (q : Fin b) (h0 : (i 0).val = p.val)
    (h1 : (i 1).val = q.val) : i = ix2 p q := by
  rw [eq_ix2 i]
  exact congrArg₂ ix2 (Fin.ext h0) (Fin.ext h1)
theorem eq_ix3_of {a b d : Nat} (i : (⟨3, ![a, b, d]⟩ : Shape).Idx) (p : Fin a) (q : Fin b) (r : Fin d) (h0 : (i 0).val = p.val)
    (h1 : (i 1).val = q.val) (h2 : (i 2).val = r.val) : i = ix3 p q r := by
  rw [eq_ix3 i]
  obtain rfl : i 0 = p := Fin.ext h0
  obtain rfl : i 1 = q := Fin.ext h1
  obtain rfl : i 2 = r := Fin.ext h2
  rfl

/-- The arguments of the launch. -/
abbrev teA : IVec S544 32 := m (((0 : Dev nD).tc : Thread nD τ).loc main_arg0)
abbrev nuA : IVec S1 32 := m (((0 : Dev nD).tc : Thread nD τ).loc main_arg1)

section Blocks
variable (hO : Ok m) (ht : ∀ i, (teA m i).toNat < 32) (t : Fin (cfgM m hO).N)

/-- The tile of a point. -/
def tOf : Fin 544 := ⟨t.val, t.isLt.trans_eq N_0⟩
theorem coord : ∀ t : Fin grid0.N, (grid0.coords t (0 : Fin 1)).val = t.val := by decide +kernel
theorem own_eq : (tbl m 0 (ownTile (grid0.coords t)) : BitVec 32) = teA m (ix1 (tOf m hO t)) := by
  have e : ownTile (grid0.coords t) = ix1 (tOf m hO t) := by
    refine (eq_ix1 _).trans (congrArg ix1 (Fin.ext ?_))
    exact coord t
  rw [e]
  exact congrArg (fun f : IVec S544 32 => f (ix1 (tOf m hO t))) (tbl0 m)
theorem one_eq : (tbl m 1 oneIdx : BitVec 32) = nuA m (ix1 0) := by
  have e : oneIdx = (ix1 0 : S1.Idx) := by
    refine (eq_ix1 _).trans (congrArg ix1 (Subsingleton.elim (α := Fin 1) _ _))
  rw [e]
  exact congrArg (fun f : IVec S1 32 => f (ix1 0)) (tbl1 m)
/-- On a used tile the first window's row block is the tile's own. -/
theorem row_used (n : ℕ) (hn : n < 544) (v : BitVec 32) (hv : IntOp.cmpi .slt (BitVec.ofNat 32 n) v = 1#1) :
    (Scalar.minsi (BitVec.ofNat 32 n) (Scalar.subi v 1#32)).toNat = n := by
  rw [IntOp.cmpi_slt, BitVec.toInt_eq_toNat_cond, BitVec.toInt_eq_toNat_cond, BitVec.toNat_ofNat] at hv
  have hv' : n < v.toNat ∧ v.toNat < 2 ^ 31 := by
    have := v.isLt
    split at hv <;> split at hv <;> omega
  unfold Scalar.minsi IntOp.minsi Scalar.subi IntOp.subi
  have h2 : (v - 1#32).toNat = v.toNat - 1 := by bv_omega
  split
  · rw [BitVec.toNat_ofNat]; omega
  · next h =>
    rw [Bool.not_eq_true, BitVec.slt_eq_decide, decide_eq_false_iff_not, BitVec.toInt_eq_toNat_cond, BitVec.toInt_eq_toNat_cond] at h
    rw [h2, BitVec.toNat_ofNat] at h
    rw [h2]
    omega

theorem blk0 (hu : IntOp.cmpi .slt (BitVec.ofNat 32 t.val) (nuA m (ix1 0)) = 1#1) (y : Fin 256) (k : Fin 1024) :
    iblk m hO c 0 t (ix2 y k) = m ((c : Thread nD τ).loc main_arg2) (ix2 (rowAt (tOf m hO t) y) k) :=
  (congrArg (V m c main_arg2) (eq_ix2_of _ _ _
    (by
      show cc0_transform_0 inb_S1_S1_0 numel1_S1 (tbl m) (grid0.coords t) (0 : Fin 2) * 256 + 1 * y.val = t.val * 256 + y.val
      rw [tr0, one_eq, coord]
      show (Scalar.minsi (BitVec.ofNat 32 t.val) (Scalar.subi (nuA m (ix1 0)) 1#32)).toNat * 256 + 1 * y.val = _
      rw [row_used _ (t.isLt.trans_eq N_0) _ hu]; omega)
    (by
      show cc0_transform_0 inb_S1_S1_0 numel1_S1 (tbl m) (grid0.coords t) (1 : Fin 2) * 1024 + 1 * k.val = k.val
      rw [tr0]; show 0 * 1024 + 1 * k.val = k.val; omega))).trans (congrFun (V_main_arg2 m c) _)
theorem blk1 (k : Fin 1024) (n : Fin 2048) :
    iblk m hO c 1 t (ix3 0 k n) = m ((c : Thread nD τ).loc main_arg3) (ix3 (exOf (teA m) ht (tOf m hO t)) k n) :=
  (congrArg (V m c main_v0) (eq_ix3_of _ _ _ _
    (by
      show cc0_transform_1 k0_off1_inb numel1_S1 (tbl m) (grid0.coords t) (0 : Fin 3) * 1 + 1 * 0 = (teA m (ix1 (tOf m hO t))).toNat
      rw [tr1, own_eq]; show (teA m (ix1 (tOf m hO t))).toNat * 1 + 1 * 0 = _; omega)
    (by
      show cc0_transform_1 k0_off1_inb numel1_S1 (tbl m) (grid0.coords t) (1 : Fin 3) * 1024 + 1 * k.val = k.val
      rw [tr1]; show 0 * 1024 + 1 * k.val = k.val; omega)
    (by
      show cc0_transform_1 k0_off1_inb numel1_S1 (tbl m) (grid0.coords t) (2 : Fin 3) * 2048 + 1 * n.val = n.val
      rw [tr1]; show 0 * 2048 + 1 * n.val = n.val; omega))).trans (V_v0 m c _ k n)
theorem blk2 (n : Fin 2048) :
    iblk m hO c 2 t (ix3 0 0 n) = m ((c : Thread nD τ).loc main_arg4) (ix2 (exOf (teA m) ht (tOf m hO t)) n) :=
  (congrArg (V m c main_v1) (eq_ix3_of _ _ _ _
    (by
      show cc0_transform_2 k0_off1_inb numel1_S1 (tbl m) (grid0.coords t) (0 : Fin 3) * 1 + 1 * 0 = (teA m (ix1 (tOf m hO t))).toNat
      rw [tr2, own_eq]; show (teA m (ix1 (tOf m hO t))).toNat * 1 + 1 * 0 = _; omega)
    (by
      show cc0_transform_2 k0_off1_inb numel1_S1 (tbl m) (grid0.coords t) (1 : Fin 3) * 1 + 1 * 0 = 0
      rw [tr2]; rfl)
    (by
      show cc0_transform_2 k0_off1_inb numel1_S1 (tbl m) (grid0.coords t) (2 : Fin 3) * 2048 + 1 * n.val = n.val
      rw [tr2]; show 0 * 2048 + 1 * n.val = n.val; omega))).trans (V_v1 m c _ n)
theorem blk3 (k n : Fin 1024) :
    iblk m hO c 3 t (ix3 0 k n) = m ((c : Thread nD τ).loc main_arg5) (ix3 (exOf (teA m) ht (tOf m hO t)) k n) :=
  (congrArg (V m c main_v2) (eq_ix3_of _ _ _ _
    (by
      show cc0_transform_3 k0_off1_inb numel1_S1 (tbl m) (grid0.coords t) (0 : Fin 3) * 1 + 1 * 0 = (teA m (ix1 (tOf m hO t))).toNat
      rw [tr3, own_eq]; show (teA m (ix1 (tOf m hO t))).toNat * 1 + 1 * 0 = _; omega)
    (by
      show cc0_transform_3 k0_off1_inb numel1_S1 (tbl m) (grid0.coords t) (1 : Fin 3) * 1024 + 1 * k.val = k.val
      rw [tr3]; show 0 * 1024 + 1 * k.val = k.val; omega)
    (by
      show cc0_transform_3 k0_off1_inb numel1_S1 (tbl m) (grid0.coords t) (2 : Fin 3) * 1024 + 1 * n.val = n.val
      rw [tr3]; show 0 * 1024 + 1 * n.val = n.val; omega))).trans (V_v2 m c _ k n)
theorem blk4 (n : Fin 1024) :
    iblk m hO c 4 t (ix3 0 0 n) = m ((c : Thread nD τ).loc main_arg6) (ix2 (exOf (teA m) ht (tOf m hO t)) n) :=
  (congrArg (V m c main_v3) (eq_ix3_of _ _ _ _
    (by
      show cc0_transform_4 k0_off1_inb numel1_S1 (tbl m) (grid0.coords t) (0 : Fin 3) * 1 + 1 * 0 = (teA m (ix1 (tOf m hO t))).toNat
      rw [tr4, own_eq]; show (teA m (ix1 (tOf m hO t))).toNat * 1 + 1 * 0 = _; omega)
    (by
      show cc0_transform_4 k0_off1_inb numel1_S1 (tbl m) (grid0.coords t) (1 : Fin 3) * 1 + 1 * 0 = 0
      rw [tr4]; rfl)
    (by
      show cc0_transform_4 k0_off1_inb numel1_S1 (tbl m) (grid0.coords t) (2 : Fin 3) * 1024 + 1 * n.val = n.val
      rw [tr4]; show 0 * 1024 + 1 * n.val = n.val; omega))).trans (V_v3 m c _ n)
theorem emb5 (y : Fin 256) (k : Fin 1024) : (((cfgM m hO).win 5).blk t).view.emb (ix2 y k) = ix2 (rowAt (tOf m hO t) y) k :=
  eq_ix2_of _ _ _
    (by
      show (BitVec.ofNat 32 (grid0.coords t (0 : Fin 1)).val).toNat * 256 + 1 * y.val = t.val * 256 + y.val
      have h : t.val < 544 := t.isLt.trans_eq N_0
      rw [coord, BitVec.toNat_ofNat]; omega)
    (by show 0 * 1024 + 1 * k.val = k.val; omega)

end Blocks

/-! ## The result array -/

/-- The result: the reference's function of the arguments. -/
def G : S139264x1024.Idx → EReal := fun i =>
  Cert.ExpertsRefIdeal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

variable (hO : Ok m) (ht : ∀ i, (teA m i).toNat < 32)

include ht in
theorem block_eq (t : Fin (cfgM m hO).N) (y : Fin 256) (j : Fin 1024) : outAt m hO c t (ix2 y j) = G m c (ix2 (rowAt (tOf m hO t) y) j) := by
  obtain rfl : c = 0 := Subsingleton.elim _ _
  unfold outAt G
  refine (tile_apply _ _ (iblk m hO 0 0 t) (iblk m hO 0 1 t) (iblk m hO 0 2 t) (iblk m hO 0 3 t) (iblk m hO 0 4 t) y j).trans
    (Eq.trans ?_ (v59_eq _ _ _ _ _ _ _ _ y j).symm)
  rw [v53_eq _ _ _ _ _ _ ht, used_eq, one_eq, coord]
  unfold Scalar.select
  by_cases hu : IntOp.cmpi .slt (BitVec.ofNat 32 t.val) (nuA m (ix1 0)) = 1#1
  · refine (if_pos hu).trans (Eq.trans ?_ (if_pos hu).symm)
    simp only [blk0 m 0 hO t hu, blk1 m 0 hO ht t, blk2 m 0 hO ht t, blk3 m 0 hO ht t, blk4 m 0 hO ht t]
  · exact (if_neg hu).trans (if_neg hu).symm

include ht in
theorem flushed_eq (t : Fin (cfgM m hO).N) : (dats m hO 0 c).flushed 5 t = (((cfgM m hO).win 5).blk t).view.read (Elt Ideal) (G m c) := by
  show ((cfgM m hO).win 5).cut (grid0.coords t) ((dats m hO 0 c).after 5 t) = _
  rw [after0_5]
  refine funext (fun (i : S256x1024.Idx) => ?_)
  obtain ⟨y, j, rfl⟩ : ∃ (y : Fin 256) (j : Fin 1024), i = ix2 y j := ⟨i 0, i 1, eq_ix2 i⟩
  refine (block_eq m c hO ht t y j).trans ?_
  show _ = G m c ((((cfgM m hO).win 5).blk t).view.emb (ix2 y j))
  rw [emb5]

/-- Every row is some tile's row. -/
theorem exists_row (i : S139264x1024.Idx) : ∃ (t : Fin (cfgM m hO).N) (y : Fin 256) (j : Fin 1024), i = ix2 (rowAt (tOf m hO t) y) j := by
  have h0 : (i 0).val < 139264 := (i 0).isLt
  refine ⟨⟨(i 0).val / 256, by rw [show (cfgM m hO).N = 544 from N_0]; omega⟩, ⟨(i 0).val % 256, by omega⟩, i 1, ?_⟩
  refine eq_ix2_of _ _ _ ?_ rfl
  show (i 0).val = (i 0).val / 256 * 256 + (i 0).val % 256
  omega

theorem flush5 : ∀ t : Fin (cfgM m hO).N, ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

include ht in
theorem final5 : (dats m hO 0 c).arrAt 5 (cfgM m hO).N = G m c :=
  (dats m hO 0 c).arrAt_eq_of_cover 5 (G m c) (fun t _ => flushed_eq m c hO ht t) fun i => by
    obtain ⟨t, y, j, rfl⟩ := exists_row m hO i
    refine ⟨t, flush5 m hO _, ?_⟩
    have h := (((cfgM m hO).win 5).blk t).view.emb_mem_set (ix2 y j)
    rwa [emb5] at h

/-! ## The claims -/

theorem frame_ref : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

attribute [local instance] Cert.Pre_tables_ok.Gen.facts

theorem frame_ref_pre : Cert.quiescent_ExpertsRefIdeal_pre_tables_ok := fun m ρ _ => frame_ref m ρ trivial

theorem frame_K : Cert.quiescent_Experts := fun m ρ h => Cert.Experts.Launch.frame m ρ (ok_K m h)
theorem frame_KI : Cert.quiescent_ExpertsIdeal := fun m ρ h => Cert.ExpertsIdeal.Launch.frame m ρ (ok_KI m h)

/-- The kernel's run ends with the result array in place and the arguments as they were. -/
theorem run_kernel (hO : Ok m) (ht : ∀ i, (teA m i).toNat < 32) : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 5).trans (final5 m c hO ht), kept_of m hO h.1 c⟩) (run_main_quiescent m ρ hO)

/-- From memories that agree on the arguments the kernel and the reference end with the same result. -/
theorem algebraic : Cert.algebraic_ExpertsIdeal_ExpertsRefIdeal := fun m ρ m' ρ' hp hag =>
  ⟨fun c => G m c, run_kernel m ρ (ok_KI m hp) (fun i => (congrArg (fun f : IVec S544 32 => (f i).toNat) (tbl0 m)).symm.trans_lt ((range_KI m hp).1 i)),
    (θ_run Cert.ExpertsRefIdeal.defs _ _).mono (fun r h c => by
        obtain ⟨h0, h1, h2, h3, h4, h5, h6⟩ := hag c
        refine ⟨(h c).1.trans ((Cert.ExpertsRefIdeal.Read.val_main_v59_eq _ _).trans ?_), (h c).2⟩
        rw [h0, h1, h2, h3, h4, h5, h6]
        rfl)
      (Cert.ExpertsRefIdeal.Value.run (F := Ideal) m' ρ')⟩

end Cert.Proof.Experts
-- ==== Proof.CombineIdealBody.lean ====
/- The body of the combine kernel (`Cert.CombineIdeal`) at one point of its grid. The body copies 1024 rows of the experts'
   results into a scratch buffer, one transfer per entry of the point's block of positions: entry `k` goes to row
   `k / 4` of plane `k % 4`. All transfers count on one semaphore; the body starts them all, waits for them all, and
   only then reads. So the buffer ends at `landed`: every row at the row of the experts' results its position names. -/
module

public import proofs.«01_k».proof.Proof.Gen.CombineIdeal.Skeleton
public import Idealize.ShloMosaic.Lib.Pipeline.Frame
public import Idealize.ShloMosaic.Lib.Batch
public import Idealize.ShloMosaic.Lib.Ring
public import Idealize.ShloMosaic.Lib.Tactic
public import Idealize.ShloMosaic.Lib.WordArith.Masks
public import Idealize.ShloMosaic.Lib.VecWindow

@[expose] public section

set_option maxRecDepth 16384

noncomputable section

namespace Cert.CombineIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineIdeal Cert.CombineIdeal.Gen

variable {F : FTy → Type} [FloatOps F]

/-- The assertions the body's run is stated in: with the counters the transfers need. -/
abbrev PropM (F : FTy → Type) : Type := sProp (MT nD τ sig Unit (Elt F) ℕ (Pipeline.UD sig nD τ) ℕ)

/-! ## The loops' trips and the operands -/

theorem trips1 : k0_t1_loop.trips = 1024 := by decide
theorem trips2 : k0_t2_loop.trips = k0_t1_loop.trips := by decide
/-- The transfers' numbers. -/
abbrev Tr : Type := Fin k0_t1_loop.trips

/-- The experts' results, and the scratch buffer: whole. -/
abbrev hbM : Memref sig .tc .hbm S139264x1024 .f32 := Memref.whole main_arg0
abbrev scM : Memref sig .tc .vmem S4x256x1024 .f32 := Memref.whole cc0_scratch0
/-- The semaphore the transfers count on. -/
abbrev dsem : SemLoc sig := SemLoc.dma cc0_scratch1.sem

theorem off2_eq (k : Tr) : k0_off2 k = ![k.val % 4, k.val / 4, 0] := by
  have hk : k.val < 1024 := lt_of_lt_of_eq k.isLt trips1
  have e : (Scf.iv 0#32 1#32 k.val).toNat = k.val := WordArith.toNat_iv_zero_one _ (by omega)
  unfold k0_off2
  dsimp only
  have e1 : (Scalar.andi (Scf.iv 0#32 1#32 k.val) 3#32).toNat = k.val % 4 := by
    unfold Scalar.andi IntOp.andi
    rw [BitVec.toNat_and, e]
    exact Nat.and_two_pow_sub_one_eq_mod k.val 2
  have e2 : (Scalar.shrui (Scf.iv 0#32 1#32 k.val) 2#32).toNat = k.val / 4 := by
    unfold Scalar.shrui IntOp.shrui
    rw [if_pos (by decide)]
    show ((Scf.iv 0#32 1#32 k.val) >>> (2 : Nat)).toNat = k.val / 4
    rw [BitVec.toNat_ushiftRight, e, Nat.shiftRight_eq_div_pow]
  rw [e1, e2]

/-- A row of the experts' results named by a word in range. -/
theorem chk1_of (v : BitVec 32) (h : v.toNat < 139264) : k0_chk1 v := by
  unfold k0_chk1 k0_off3
  intro a
  match a with
  | ⟨0, _⟩ => show v.toNat + 1 ≤ 139264; omega
  | ⟨1, _⟩ => show 0 + 1024 ≤ 1024; omega
theorem chk2_of (v : BitVec 32) (h : v.toNat < 139264) : k0_chk2 v := chk1_of v h

def srcM (v : BitVec 32) (h : k0_chk1 v) : Memref sig .tc .hbm S1x1024 .f32 :=
  hbM.slice (Rect.unit (s := S139264x1024) (k0_off3 v) S1x1024.size (k0_off3_inb v h)) (fun _ => rfl)
/-- The row of the scratch buffer transfer `k` lands in. -/
def dstM (k : Tr) : Memref sig .tc .vmem S1x1024 .f32 :=
  (scM.slice (Rect.unit (s := S4x256x1024) (k0_off2 k) S1x1x1024.size (k0_off2_inb k)) (fun _ => rfl)).squeeze S1x1024 squeezes_S1x1x1024_S1x1024

/-! ## What lands where -/

/-- The positions' block, as the body holds it. -/
abbrev Tab (F : FTy → Type) : Type := Vec F S1024 .i32
abbrev InRange (tb : Tab F) : Prop := ∀ i, (tb i : BitVec 32).toNat < 139264

/-- The entry of the positions that fills an element of the scratch buffer, -/
def entry (y : S4x256x1024.Idx) : S1024.Idx := fun d => match d with
  | ⟨0, _⟩ => (⟨4 * (y 1).val + (y 0).val, by
      have h1 : (y 1).val < 256 := (y 1).isLt
      have h0 : (y 0).val < 4 := (y 0).isLt
      omega⟩ : Fin 1024)
/-- and the element of the experts' results it is filled with. -/
def from_ (tb : Tab F) (hT : InRange tb) (y : S4x256x1024.Idx) : S139264x1024.Idx := fun d => match d with
  | ⟨0, _⟩ => (⟨(tb (entry y) : BitVec 32).toNat, hT _⟩ : Fin 139264)
  | ⟨1, _⟩ => (⟨(y 2).val, (y 2).isLt⟩ : Fin 1024)
/-- The scratch buffer after the transfers. -/
def landed (tb : Tab F) (hT : InRange tb) (fh : S139264x1024.Idx → Elt F .f32) (y : S4x256x1024.Idx) : Elt F .f32 := fh (from_ tb hT y)

/-- The word transfer `k` reads. -/
abbrev entryAt (k : Tr) : S1024.Idx := fun d => match d with | ⟨0, _⟩ => (⟨k.val, lt_of_lt_of_eq k.isLt trips1⟩ : Fin 1024)
abbrev word (tb : Tab F) (k : Tr) : BitVec 32 := tb (entryAt k)
abbrev wchk (tb : Tab F) (hT : InRange tb) (k : Tr) : k0_chk1 (word tb k) := chk1_of _ (hT _)

/-- The elements of the scratch buffer transfer `k` fills: row `k / 4` of plane `k % 4`. -/
abbrev rowSet (k : Tr) : Finset S4x256x1024.Idx := (Rect.unit (s := S4x256x1024) (k0_off2 k) S1x1x1024.size (k0_off2_inb k)).set
theorem dst_set (k : Tr) : (dstM k).view.set = rowSet k := by
  unfold dstM; exact (View.set_reshape _ _).trans (View.set_slice_whole _ _)
theorem mem_rowSet (k : Tr) (y : S4x256x1024.Idx) : y ∈ rowSet k ↔ 4 * (y 1).val + (y 0).val = k.val := by
  have hk : k.val < 1024 := lt_of_lt_of_eq k.isLt trips1
  rw [Rect.mem_set_unit, off2_eq]
  have h0 : (y 0).val < 4 := (y 0).isLt
  have h1 : (y 1).val < 256 := (y 1).isLt
  have h2 : (y 2).val < 1024 := (y 2).isLt
  constructor
  · intro H
    have a0 : k.val % 4 ≤ (y 0).val ∧ (y 0).val < k.val % 4 + 1 := H 0
    have a1 : k.val / 4 ≤ (y 1).val ∧ (y 1).val < k.val / 4 + 1 := H 1
    omega
  · intro H a
    match a with
    | ⟨0, _⟩ => show k.val % 4 ≤ (y 0).val ∧ (y 0).val < k.val % 4 + 1; omega
    | ⟨1, _⟩ => show k.val / 4 ≤ (y 1).val ∧ (y 1).val < k.val / 4 + 1; omega
    | ⟨2, _⟩ => show 0 ≤ (y 2).val ∧ (y 2).val < 0 + 1024; omega
theorem rowSet_disjoint : ∀ k k' : Tr, k ≠ k' → Disjoint (rowSet k) (rowSet k') := fun k k' hne => by
  rw [Finset.disjoint_left]; intro y hy hy'; rw [mem_rowSet] at hy hy'; exact hne (Fin.ext (by omega))
theorem rowSet_cover : Finset.univ.biUnion rowSet = Finset.univ := by
  ext y; simp only [Finset.mem_biUnion, Finset.mem_univ, true_and, iff_true]
  have h0 : (y 0).val < 4 := (y 0).isLt
  have h1 : (y 1).val < 256 := (y 1).isLt
  exact ⟨⟨4 * (y 1).val + (y 0).val, by rw [trips1]; omega⟩, (mem_rowSet _ _).mpr rfl⟩

/-- The element of the row that a column of a transfer lands on, and the one it is read from. -/
theorem dst_emb (k : Tr) (x : S1x1024.Idx) : ((dstM k).view.emb x : S4x256x1024.Idx) = fun d => match d with
    | ⟨0, _⟩ => (⟨k.val % 4, Nat.mod_lt _ (by decide)⟩ : Fin 4)
    | ⟨1, _⟩ => (⟨k.val / 4, by have : k.val < 1024 := lt_of_lt_of_eq k.isLt trips1; omega⟩ : Fin 256)
    | ⟨2, _⟩ => (⟨(x 1).val, (x 1).isLt⟩ : Fin 1024) := by
  have hn : S1x1024.numel = S1x1x1024.numel := by decide
  have e : Shape.reshapeEquiv hn x = (fun d => match d with
      | ⟨0, _⟩ => (⟨0, Nat.one_pos⟩ : Fin 1) | ⟨1, _⟩ => (⟨0, Nat.one_pos⟩ : Fin 1) | ⟨2, _⟩ => (⟨(x 1).val, (x 1).isLt⟩ : Fin 1024)) := by
    refine Shape.reshapeEquiv_eq_of_rowMajor hn ?_
    rw [Shape.rowMajor_val_three, Shape.rowMajor_val_two]
    have h0 : (x 0).val < 1 := (x 0).isLt
    show (0 * 1 + 0) * 1024 + (x 1).val = (x 0).val * 1024 + (x 1).val
    omega
  have r : ∀ d : Fin 3, (((dstM k).view.emb x : S4x256x1024.Idx) d).val = k0_off2 k d + 1 * (Shape.reshapeEquiv hn x d).val := fun _ => rfl
  rw [e, off2_eq] at r
  funext d
  match d with
  | ⟨0, _⟩ => exact Fin.ext (r 0)
  | ⟨1, _⟩ => exact Fin.ext (r 1)
  | ⟨2, _⟩ => exact Fin.ext ((r 2).trans (by show 0 + 1 * (x 1).val = (x 1).val; omega))
theorem src_emb (v : BitVec 32) (h : k0_chk1 v) (x : S1x1024.Idx) :
    (((srcM v h).view.emb x : S139264x1024.Idx) (0 : Fin 2)).val = v.toNat
    ∧ (((srcM v h).view.emb x : S139264x1024.Idx) (1 : Fin 2)).val = (x 1).val := by
  have h0 : (x 0).val < 1 := (x 0).isLt
  constructor
  · show v.toNat + 1 * (x 0).val = v.toNat; omega
  · show 0 + 1 * (x 1).val = (x 1).val; omega

/-- On its row, a transfer leaves what `landed` says. -/
theorem lands (tb : Tab F) (hT : InRange tb) (fh : S139264x1024.Idx → Elt F .f32) (f0 : S4x256x1024.Idx → Elt F .f32) (k : Tr)
    (y : S4x256x1024.Idx) (hy : y ∈ (dstM k).view.set) :
    (dstM k).view.write (Elt F) f0 ((srcM (word tb k) (wchk tb hT k)).view.read (Elt F) fh) Finset.univ y = landed tb hT fh y := by
  obtain ⟨x, -, rfl⟩ := Finset.mem_map.mp hy
  refine (View.write_emb (v := (dstM k).view) ..).trans ((if_pos (Finset.mem_univ _)).trans ?_)
  show fh _ = landed tb hT fh ((dstM k).view.emb x)
  unfold landed
  congr 1
  have hs := src_emb (word tb k) (wchk tb hT k) x
  rw [dst_emb]
  funext d
  match d with
  | ⟨0, _⟩ =>
    refine Fin.ext (hs.1.trans ?_)
    show (tb (entryAt k) : BitVec 32).toNat = (tb (entry _) : BitVec 32).toNat
    congr 2
    funext a
    obtain rfl : a = 0 := Subsingleton.elim _ _
    refine Fin.ext ?_
    show k.val = 4 * (k.val / 4) + k.val % 4
    omega
  | ⟨1, _⟩ => exact Fin.ext hs.2

/-! ## The first loop: the transfers -/

section Loops

variable (c : Dev nD) (𝒱 : Variants) (tb : Tab F) (hT : InRange tb) (fh : S139264x1024.Idx → Elt F .f32)

/-- The row transfer `k` lands in, held at some contents; the row it reads, held at its own share of the array; the
    positions' block. -/
def rowPt (k : Tr) (f : S4x256x1024.Idx → Elt F .f32) : PropM F := (dstM k).view.loc (c : Thread nD τ) ↦[(dstM k).view.set]{fullShare} f
def tokPt (k : Tr) : PropM F := (srcM (word tb k) (wchk tb hT k)).view.loc (c : Thread nD τ) ↦[(srcM (word tb k) (wchk tb hT k)).view.set]{Transfers.shareTok fullShare k0_t1_loop.trips k} fh
abbrev tabPt (arg1 : Memref sig .tc .smem S1024 .i32) (harg1 : arg1.IsWhole) : PropM F := arg1.view.loc (c : Thread nD τ) ↦[arg1.view.set]{fullShare} (harg1.unread tb)

/-- What transfer `k` delivers. -/
def deliv (k : Tr) : PropM F := iprop(rowPt c k (landed tb hT fh) ∗ tokPt c tb hT fh k)
theorem held_storable {sp : Space} {sh : Shape} {e : EltTy} (m : Memref sig .tc sp sh e) (q : PosShare TreeShare)
    (f : Buf (Elt F) (m.view.loc (c : Thread nD τ))) :
    BI.Storable (upEmb : UEmb _ (MT nD τ sig Unit (Elt F) ℕ (Pipeline.UD sig nD τ) ℕ)) (m.view.loc (c : Thread nD τ) ↦[m.view.set]{q} f) := inferInstance
instance rowPt_storable (k : Tr) (f : S4x256x1024.Idx → Elt F .f32) :
    BI.Storable (upEmb : UEmb _ (MT nD τ sig Unit (Elt F) ℕ (Pipeline.UD sig nD τ) ℕ)) (rowPt c k f) := held_storable c (dstM k) fullShare f
instance tokPt_storable (k : Tr) :
    BI.Storable (upEmb : UEmb _ (MT nD τ sig Unit (Elt F) ℕ (Pipeline.UD sig nD τ) ℕ)) (tokPt c tb hT fh k) :=
  held_storable c (srcM (word tb k) (wchk tb hT k)) _ fh
instance deliv_storable (k : Tr) :
    BI.Storable (upEmb : UEmb _ (MT nD τ sig Unit (Elt F) ℕ (Pipeline.UD sig nD τ) ℕ)) (deliv c tb hT fh k) := by
  unfold deliv; infer_instance

/-- One transfer's credit. -/
def NN : ℕ := (dstM ⟨0, by decide⟩).view.dmaCredit
theorem NN_pos : 0 < NN := View.dmaCredit_pos _ (by decide)
theorem NN_eq (k : Tr) : (dstM k).view.dmaCredit = NN := rfl

/-- The transfers on the semaphore: `j` started, `u` units waited for. -/
abbrev batch (j u : ℕ) : PropM F :=
  Transfers.Batch (countersEmb (U := Pipeline.UD sig nD τ)) (c : Thread nD τ) dsem () NN (deliv c tb hT fh) j u

/-- A transfer's delivery, from what it leaves. -/
theorem deliv_of (k : Tr) (f0 : S4x256x1024.Idx → Elt F .f32) :
    iprop(((dstM k).view.loc (c : Thread nD τ) ↦[(dstM k).view.set]{fullShare}
          ((dstM k).view.write (Elt F) f0 ((srcM (word tb k) (wchk tb hT k)).view.read (Elt F) fh) Finset.univ))
        ∗ ((srcM (word tb k) (wchk tb hT k)).view.loc (c : Thread nD τ) ↦[(srcM (word tb k) (wchk tb hT k)).view.set]{Transfers.shareTok fullShare k0_t1_loop.trips k} fh))
      ⊢ deliv (F := F) c tb hT fh k := by
  unfold deliv rowPt tokPt
  iintro ⟨H, H'⟩
  isplitl [H]
  · iapply (Entails.of_eq (pointsTo_congr (lands tb hT fh f0 k))); iexact H
  · iexact H'

/-- Before trip `k` of the first loop: `k` transfers started; the rows and the shares from `k` on still in hand. -/
def issueAt (arg1 : Memref sig .tc .smem S1024 .i32) (harg1 : arg1.IsWhole) (f0 : S4x256x1024.Idx → Elt F .f32) (k : ℕ) (_ : Unit) : PropM F :=
  iprop(batch c tb hT fh k 0 ∗ tabPt c tb arg1 harg1
    ∗ bigSep (Ring.rangeSet k0_t1_loop.trips k k0_t1_loop.trips) (fun t => rowPt c t f0)
    ∗ bigSep (Ring.rangeSet k0_t1_loop.trips k k0_t1_loop.trips) (fun t => tokPt c tb hT fh t))

variable (i : grid0.Coords) (arg1 : Memref sig .tc .smem S1024 .i32) (harg1 : arg1.IsWhole)
  (arg3 : Memref sig .tc .vmem S256x128 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S256x1024 .f32) (harg7 : arg7.IsWhole) (arg8 : Memref sig .tc .vmem S256x1024 .bf16) (harg8 : arg8.IsWhole)

abbrev body1 := k0_t1_body (F := F) i arg1 harg1 hbM (Memref.isWhole_whole _) arg3 harg3 arg4 harg4 arg5 harg5 arg6 harg6 arg7 harg7 arg8 harg8 scM (Memref.isWhole_whole _) cc0_scratch1
abbrev body2 := k0_t2_body (F := F) i arg1 harg1 hbM (Memref.isWhole_whole _) arg3 harg3 arg4 harg4 arg5 harg5 arg6 harg6 arg7 harg7 arg8 harg8 scM (Memref.isWhole_whole _) cc0_scratch1

/-- The word the load of trip `k` reads. -/
theorem load_word (k : Tr) (o : Fin 1 → ℕ) (ho : o = ![k.val]) (h : ∀ a : Fin 1, o a + S1.size a ≤ S1024.size a)
    (x : (Rect.unit (s := S1024) o S1.size h).toLoadRect.shape.Idx) :
    arg1.view.readAt (Elt F) (Rect.unit (s := S1024) o S1.size h).toLoadRect (harg1.unread tb) x = word tb k := by
  subst ho
  rw [View.readAt_apply, harg1.read_unread]
  congr 1
  funext a
  obtain rfl : a = 0 := Subsingleton.elim _ _
  refine Fin.ext ?_
  have h0 : (x (0 : Fin 1)).val < 1 := (x (0 : Fin 1)).isLt
  show k.val + 1 * (x (0 : Fin 1)).val = k.val
  omega

/-- Starting transfer `k`. -/
theorem issue_one {α : Type} (f0 : S4x256x1024.Idx → Elt F .f32) (k : Tr)
    {hsrc : (srcM (word tb k) (wchk tb hT k)).view.WordExact} {hdst : (dstM k).view.WordExact}
    {hsem : DmaTarget.Typed (nD := nD) .hbm dsem (DmaTarget.here (p := (c : Thread nD τ).2) (dstM k))}
    {kk : PUnit → Prog (TpuEff nD τ sig (Elt F) Λ₀ .tc) α} {Q : α → PropM F} :
    iprop(tokPt c tb hT fh k ∗ rowPt c k f0 ∗ batch c tb hT fh k.val 0)
      ⊢ iprop((batch c tb hT fh (k.val + 1) 0 -∗ wp frame (wpE defs₀ 𝒱 (c : Thread nD τ) none) Set.univ (kk ⟨⟩) Q)
          -∗ wp frame (wpE defs₀ 𝒱 (c : Thread nD τ) none) Set.univ
              (.op (.enqueueDma (srcM (word tb k) (wchk tb hT k)) (.here (dstM k)) dsem hsrc hdst hsem) kk) Q) := by
  unfold tokPt rowPt
  exact Transfers.wp_dmaBatch (countersEmb (U := Pipeline.UD sig nD τ)) 𝒱 (c : Thread nD τ) none () NN
    (hN := NN_eq k) (hSd := subset_rfl) (hj := k.isLt) (hu := Nat.zero_le _) (hD := deliv_of c tb hT fh k f0)

theorem issue_step (f0 : S4x256x1024.Idx → Elt F .f32) (k : Tr) (acc : Unit) :
    issueAt c tb hT fh arg1 harg1 f0 k acc
      ⊢ wp frame (wpE defs₀ 𝒱 (c : Thread nD τ) none) Set.univ
          (body1 (F := F) i arg1 harg1 arg3 harg3 arg4 harg4 arg5 harg5 arg6 harg6 arg7 harg7 arg8 harg8 k acc)
          (issueAt c tb hT fh arg1 harg1 f0 (k.val + 1)) := by
  have hk := k.isLt
  unfold issueAt
  rw [Ring.bigSep_rangeSet_head (Φ := fun t => rowPt c t f0) (by omega) (by omega),
    Ring.bigSep_rangeSet_head (Φ := fun t => tokPt c tb hT fh t) (by omega) (by omega)]
  iintro ⟨HB, Ht, ⟨HR, HRs⟩, ⟨HS, HSs⟩⟩
  unfold body1 k0_t1_body
  sl_exec
  have hv : issue_step.sl.r tb arg1 harg1 k = word tb k := by
    unfold issue_step.sl.r
    exact load_word tb arg1 harg1 k _ (k0_off1_eq k) _ _
  generalize issue_step.sl.r tb arg1 harg1 k = v at hv ⊢
  subst hv
  have hw := wchk tb hT k
  sl_exec
  iapply (issue_one c 𝒱 tb hT fh f0 k) $$ [HS HR HB]
  · isplitl [HS]; · iexact HS
    isplitl [HR]; · iexact HR
    iexact HB
  iintro HB
  sl_step
  isplitl [HB]; · iexact HB
  isplitl [Ht]; · iexact Ht
  isplitl [HRs]; · iexact HRs
  iexact HSs

/-! ## The second loop: the waits -/

/-- Before trip `k` of the second loop: the batch with `k` transfers waited for, and after the last trip the semaphore
    at zero and every delivery. -/
def drainAt (k : ℕ) (_ : Unit) : PropM F :=
  iprop(⌜k ≤ k0_t1_loop.trips⌝ ∗ tabPt c tb arg1 harg1 ∗ (∃ W, owes (c : Thread nD τ) 0 W)
    ∗ (if k < k0_t1_loop.trips then batch c tb hT fh k0_t1_loop.trips (k * NN)
       else iprop(semVal ((c : Thread nD τ), dsem) 0 ∗ bigSep Finset.univ (deliv c tb hT fh))))

/-- Each wait is for one transfer's credit. -/
theorem credit2 (k : Fin k0_t2_loop.trips) :
    ((scM.slice (Rect.unit (s := S4x256x1024) (k0_off5 k) S1x1x1024.size (k0_off5_inb k)) (fun _ => rfl)).squeeze S1x1024
      squeezes_S1x1x1024_S1x1024).view.dmaCredit = NN := rfl

theorem drain_step (k : Fin k0_t2_loop.trips) (acc : Unit) :
    drainAt c tb hT fh arg1 harg1 k acc
      ⊢ wp frame (wpE defs₀ 𝒱 (c : Thread nD τ) none) Set.univ
          (body2 (F := F) i arg1 harg1 arg3 harg3 arg4 harg4 arg5 harg5 arg6 harg6 arg7 harg7 arg8 harg8 k acc)
          (drainAt c tb hT fh arg1 harg1 (k.val + 1)) := by
  have hk : k.val < k0_t1_loop.trips := lt_of_lt_of_eq k.isLt trips2
  have hN : NN * k0_t1_loop.trips = k0_t1_loop.trips * NN := Nat.mul_comm _ _
  have hw : k0_chk2 (word tb ⟨k.val, hk⟩) := wchk tb hT ⟨k.val, hk⟩
  unfold drainAt
  rw [if_pos hk]
  iintro ⟨-, Ht, ⟨%W, HO⟩, HB⟩
  unfold body2 k0_t2_body
  sl_exec
  have hv : drain_step.sl.r tb arg1 harg1 k = word tb ⟨k.val, hk⟩ := by
    unfold drain_step.sl.r
    exact load_word tb arg1 harg1 ⟨k.val, hk⟩ _ (k0_off4_eq k) _ _
  generalize drain_step.sl.r tb arg1 harg1 k = v at hv ⊢
  subst hv
  sl_exec
  rcases Nat.lt_or_ge (k.val + 1) k0_t1_loop.trips with h1 | h1
  · rw [if_pos h1]
    have hu : k.val * NN + NN < NN * k0_t1_loop.trips := by
      have := Nat.mul_lt_mul_of_pos_right h1 NN_pos
      rw [hN]
      rwa [Nat.succ_mul] at this
    iapply (Transfers.wp_waitBatch (countersEmb (U := Pipeline.UD sig nD τ)) 𝒱 (c : Thread nD τ) none () (hN := credit2 k) (hu := hu)) $$ [HB HO]
    · isplitl [HB]; · iexact HB
      iexact HO
    iintro ⟨HB, HO⟩
    sl_step
    isplitr; · ipureintro; omega
    isplitl [Ht]; · iexact Ht
    isplitl [HO]; · iexists _; iexact HO
    rw [Nat.succ_mul]
    iexact HB
  · rw [if_neg (Nat.not_lt.mpr h1)]
    have hu : k.val * NN + NN = NN * k0_t1_loop.trips := by
      rw [hN, ← Nat.succ_mul]
      congr 1
      omega
    iapply (Transfers.wp_waitBatchLast (countersEmb (U := Pipeline.UD sig nD τ)) 𝒱 (c : Thread nD τ) none () (hN := credit2 k) (hN0 := NN_pos) (hu := hu)) $$ [HB HO]
    · isplitl [HB]; · iexact HB
      iexact HO
    iintro ⟨Hall, Hq, HO⟩
    sl_step
    isplitr; · ipureintro; omega
    isplitl [Ht]; · iexact Ht
    isplitl [HO]; · iexists _; iexact HO
    isplitl [Hq]; · iexact Hq
    iexact Hall

end Loops

/-! ## The buffer as its rows, and the array as the transfers' shares -/

section Split

variable (c : Dev nD) (tb : Tab F) (hT : InRange tb) (fh : S139264x1024.Idx → Elt F .f32)

theorem buf_rows (f : S4x256x1024.Idx → Elt F .f32) :
    (scM.view.loc (c : Thread nD τ) ↦{fullShare} f : PropM F) = bigSep Finset.univ (fun k => rowPt c k f) := by
  refine (Ring.pointsTo_blocks (ℓ := scM.view.loc (c : Thread nD τ)) (q := fullShare) rowSet rowSet_disjoint rowSet_cover f).trans ?_
  congr 1
  funext k
  unfold rowPt
  rw [dst_set]
  rfl

/-- Transfer `k`'s share of the array, whole; and what of it the transfer does not read. -/
def sharePt (k : Tr) : PropM F := hbM.view.loc (c : Thread nD τ) ↦{Transfers.shareTok fullShare k0_t1_loop.trips k} fh
def offPt (k : Tr) : PropM F := hbM.view.loc (c : Thread nD τ)
  ↦[Finset.univ \ (srcM (word tb k) (wchk tb hT k)).view.set]{Transfers.shareTok fullShare k0_t1_loop.trips k} fh
/-- The part of the array the transfers leave alone. -/
def srcRest : PropM F :=
  iprop((hbM.view.loc (c : Thread nD τ) ↦{Transfers.shareDrop fullShare k0_t1_loop.trips} fh) ∗ bigSep Finset.univ (offPt c tb hT fh))

theorem rot {P Q R : PropM F} : iprop(P ∗ Q ∗ R) ⊢ iprop(Q ∗ P ∗ R) := by
  iintro ⟨HP, HQ, HR⟩
  isplitl [HQ]; · iexact HQ
  isplitl [HP]; · iexact HP
  iexact HR

theorem tok_split (k : Tr) : sharePt c fh k = iprop(tokPt c tb hT fh k ∗ offPt c tb hT fh k) :=
  Entails.antisymm (pointsTo_split_subset (Finset.subset_univ _)).1 (pointsTo_split_subset (Finset.subset_univ _)).2

theorem toks_split : bigSep Finset.univ (sharePt c fh) = iprop(bigSep Finset.univ (tokPt c tb hT fh) ∗ bigSep Finset.univ (offPt c tb hT fh)) :=
  (BI.bigSep_congr fun k _ => tok_split c tb hT fh k).trans (BI.bigSep_sep _ _ _)

theorem src_split :
    (hbM.view.loc (c : Thread nD τ) ↦{fullShare} fh : PropM F)
      = iprop(bigSep Finset.univ (tokPt c tb hT fh) ∗ srcRest c tb hT fh) := by
  have h1 : (hbM.view.loc (c : Thread nD τ) ↦{fullShare} fh : PropM F)
      = iprop((hbM.view.loc (c : Thread nD τ) ↦{Transfers.shareDrop fullShare k0_t1_loop.trips} fh) ∗ bigSep Finset.univ (sharePt c fh)) :=
    Entails.antisymm (Transfers.pointsTo_toks fullShare k0_t1_loop.trips).1 (Transfers.pointsTo_toks fullShare k0_t1_loop.trips).2
  rw [h1, toks_split c tb hT fh]
  unfold srcRest
  exact Entails.antisymm rot rot

/-- The deliveries are the buffer at `landed` and the transfers' shares. -/
theorem deliv_all : bigSep Finset.univ (deliv c tb hT fh)
    = iprop((scM.view.loc (c : Thread nD τ) ↦{fullShare} landed tb hT fh) ∗ bigSep Finset.univ (tokPt c tb hT fh)) := by
  rw [buf_rows]; unfold deliv; exact BI.bigSep_sep _ _ _

end Split

/-! ## The whole body -/

/-- Plane `j` of the scratch buffer after the transfers. -/
def plane (tb : Tab F) (hT : InRange tb) (fh : S139264x1024.Idx → Elt F .f32) (j : Fin 4) : Vec F S1x256x1024 .f32 := fun x =>
  landed tb hT fh (fun d => match d with | ⟨0, _⟩ => j | ⟨1, _⟩ => (⟨(x 1).val, (x 1).isLt⟩ : Fin 256) | ⟨2, _⟩ => (⟨(x 2).val, (x 2).isLt⟩ : Fin 1024))

theorem plane_read (tb : Tab F) (hT : InRange tb) (fh : S139264x1024.Idx → Elt F .f32) (j : Fin 4) (o : Fin 3 → ℕ) (ho : o = ![j.val, 0, 0])
    (h : ∀ a : Fin 3, o a + S1x256x1024.size a ≤ S4x256x1024.size a) :
    scM.view.readAt (Elt F) (Rect.unit (s := S4x256x1024) o S1x256x1024.size h).toLoadRect (landed tb hT fh) = plane tb hT fh j := by
  subst ho
  refine funext fun (x : S1x256x1024.Idx) => ?_
  refine (View.readAt_apply ..).trans ?_
  show landed tb hT fh _ = landed tb hT fh _
  congr 1
  have h0 : (x 0).val < 1 := (x 0).isLt
  funext d
  match d with
  | ⟨0, _⟩ => refine Fin.ext ?_; show j.val + 1 * (x 0).val = j.val; omega
  | ⟨1, _⟩ => refine Fin.ext ?_; show 0 + 1 * (x 1).val = (x 1).val; omega
  | ⟨2, _⟩ => refine Fin.ext ?_; show 0 + 1 * (x 2).val = (x 2).val; omega

/-- What the body leaves in its two outputs. -/
def sumOf (tb : Tab F) (hT : InRange tb) (fh : S139264x1024.Idx → Elt F .f32) (x1 : Vec F S256x128 .f32) : FVec F S256x1024 .f32 :=
  k0_pay3 x1 (plane tb hT fh 0) (plane tb hT fh 1) (plane tb hT fh 2) (plane tb hT fh 3)
def left5 (tb : Tab F) (hT : InRange tb) (fh : S139264x1024.Idx → Elt F .f32) (x1 : Vec F S256x128 .f32) (x2 : Vec F S256x1024 .f32)
    (x3 x4 : Vec F S1x1024 .f32) : Vec F S256x1024 .f32 := k0_pay1 (sumOf tb hT fh x1) (k0_pay4 x2) x3 x4
def left6 (tb : Tab F) (hT : InRange tb) (fh : S139264x1024.Idx → Elt F .f32) (x1 : Vec F S256x128 .f32) (x2 : Vec F S256x1024 .f32)
    (x3 x4 : Vec F S1x1024 .f32) : Vec F S256x1024 .bf16 := k0_pay2 (sumOf tb hT fh x1) (k0_pay4 x2) x3 x4

theorem left5_of (tb : Tab F) (hT : InRange tb) (fh : S139264x1024.Idx → Elt F .f32) {x1 a : Vec F S256x128 .f32} {x2 b : Vec F S256x1024 .f32}
    {x3 x4 d e : Vec F S1x1024 .f32} {p0 p1 p2 p3 : Vec F S1x256x1024 .f32} (ha : a = x1) (h0 : p0 = plane tb hT fh 0) (h1 : p1 = plane tb hT fh 1)
    (h2 : p2 = plane tb hT fh 2) (h3 : p3 = plane tb hT fh 3) (hb : b = x2) (hd : d = x3) (he : e = x4) :
    k0_pay1 (k0_pay3 a p0 p1 p2 p3) (k0_pay4 b) d e = left5 tb hT fh x1 x2 x3 x4 := by
  subst ha h0 h1 h2 h3 hb hd he; rfl

theorem left6_of (tb : Tab F) (hT : InRange tb) (fh : S139264x1024.Idx → Elt F .f32) {x1 a : Vec F S256x128 .f32} {x2 b : Vec F S256x1024 .f32}
    {x3 x4 d e : Vec F S1x1024 .f32} {p0 p1 p2 p3 : Vec F S1x256x1024 .f32} (ha : a = x1) (h0 : p0 = plane tb hT fh 0) (h1 : p1 = plane tb hT fh 1)
    (h2 : p2 = plane tb hT fh 2) (h3 : p3 = plane tb hT fh 3) (hb : b = x2) (hd : d = x3) (he : e = x4) :
    k0_pay2 (k0_pay3 a p0 p1 p2 p3) (k0_pay4 b) d e = left6 tb hT fh x1 x2 x3 x4 := by
  subst ha h0 h1 h2 h3 hb hd he; rfl

set_option maxHeartbeats 2000000 in
/-- The body on whole staging buffers: it leaves the inputs as they were and the two outputs at `left5` and `left6`. -/
theorem body_run (c : Dev nD) (i : grid0.Coords) (arg1 : Memref sig .tc .smem S1024 .i32) (harg1 : arg1.IsWhole)
    (arg3 : Memref sig .tc .vmem S256x128 .f32) (harg3 : arg3.IsWhole) (arg4 : Memref sig .tc .vmem S256x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S256x1024 .f32) (harg7 : arg7.IsWhole) (arg8 : Memref sig .tc .vmem S256x1024 .bf16) (harg8 : arg8.IsWhole)
    (tb : Tab F) (hT : InRange tb) (fh : S139264x1024.Idx → Elt F .f32) (x1 : Vec F S256x128 .f32) (x2 : Vec F S256x1024 .f32)
    (x3 x4 : Vec F S1x1024 .f32) (W : Waits sig Unit) (K : PUnit → PropM F) :
    iprop(owns (c : Thread nD τ) arg1 fullShare tb
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (∃ f : S4x256x1024.Idx → Elt F .f32, scM.view.loc (c : Thread nD τ) ↦{fullShare} f)
        ∗ semVal ((c : Thread nD τ), dsem) 0 ∗ (hbM.view.loc (c : Thread nD τ) ↦{fullShare} fh) ∗ owes (c : Thread nD τ) 0 W
        ∗ (iprop(owns (c : Thread nD τ) arg1 fullShare tb
        ∗ owns (c : Thread nD τ) arg3 fullShare x1
        ∗ owns (c : Thread nD τ) arg4 fullShare x2
        ∗ owns (c : Thread nD τ) arg5 fullShare x3
        ∗ owns (c : Thread nD τ) arg6 fullShare x4
              ∗ owns (c : Thread nD τ) arg7 fullShare (left5 tb hT fh x1 x2 x3 x4) ∗ owns (c : Thread nD τ) arg8 fullShare (left6 tb hT fh x1 x2 x3 x4)
              ∗ (∃ f : S4x256x1024.Idx → Elt F .f32, scM.view.loc (c : Thread nD τ) ↦{fullShare} f)
              ∗ semVal ((c : Thread nD τ), dsem) 0 ∗ (hbM.view.loc (c : Thread nD τ) ↦{fullShare} fh) ∗ ∃ W', owes (c : Thread nD τ) 0 W') -∗ K ⟨⟩))
      ⊢ wp frame (wpE (defs₀ (F := F)) Variants.none c none) Set.univ
          (cc0_moe_combine i arg1 harg1 hbM (Memref.isWhole_whole _) arg3 harg3 arg4 harg4 arg5 harg5 arg6 harg6 arg7 harg7 arg8 harg8 scM (Memref.isWhole_whole _) cc0_scratch1) K := by
  simp only [cc0_moe_combine_eq_skeleton]; unfold cc0_moe_combine_skel
  simp only [k0_part1_eq_skeleton]; unfold k0_part1_skel
  simp only [bind_assoc]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, HS⟩, Hq, Hh, HO, Hk⟩
  obtain rfl := harg1.eq_unread hf0; obtain rfl := harg3.eq_unread hf1; obtain rfl := harg4.eq_unread hf2; obtain rfl := harg5.eq_unread hf3; obtain rfl := harg6.eq_unread hf4
  ihave Hh' := (Entails.of_eq (src_split c tb hT fh)) $$ Hh
  icases Hh' with ⟨Hts, Hrest⟩
  ihave HS' := (Entails.of_eq (buf_rows c fs)) $$ HS
  imod (Transfers.batch_alloc' (Lvl := ℕ) (countersEmb (U := Pipeline.UD sig nD τ)) (c : Thread nD τ) () NN (deliv c tb hT fh) (sm := dsem) (E := Set.univ)) $$ Hq with HB
  sl_for (issueAt c tb hT fh arg1 harg1 fs) $$ [HB H0 HS' Hts]
  · intro k acc
    exact issue_step c Variants.none tb hT fh i arg1 harg1 arg3 harg3 arg4 harg4 arg5 harg5 arg6 harg6 arg7 harg7 arg8 harg8 fs k acc
  · unfold issueAt
    rw [← Ring.rangeSet_univ]
    isplitl [HB]; · iexact HB
    isplitl [H0]; · iexact H0
    isplitl [HS']; · iexact HS'
    iexact Hts
  iintro %acc HL
  unfold issueAt
  icases HL with ⟨HB, H0, -, -⟩
  sl_for (drainAt c tb hT fh arg1 harg1) $$ [HB H0 HO]
  · intro k acc
    exact drain_step c Variants.none tb hT fh i arg1 harg1 arg3 harg3 arg4 harg4 arg5 harg5 arg6 harg6 arg7 harg7 arg8 harg8 k acc
  · unfold drainAt
    rw [if_pos (by rw [trips1]; omega)]
    isplitr; · ipureintro; exact Nat.zero_le _
    isplitl [H0]; · iexact H0
    isplitl [HO]; · iexists _; iexact HO
    rw [Nat.zero_mul]
    iexact HB
  iintro %acc2 HL
  unfold drainAt
  rw [if_neg (show ¬ Scf.trips k0_t2_loop.lb k0_t2_loop.ub k0_t2_loop.st < k0_t1_loop.trips from fun h => Nat.lt_irrefl _ (lt_of_lt_of_eq h trips2.symm))]
  icases HL with ⟨-, H0, ⟨%W', HO⟩, Hq, HD⟩
  ihave HD' := (Entails.of_eq (deliv_all c tb hT fh)) $$ HD
  icases HD' with ⟨HS, Hts⟩
  ihave Hh := (Entails.of_eq (src_split c tb hT fh).symm) $$ [Hts Hrest]
  · isplitl [Hts]; · iexact Hts
    iexact Hrest
  sl_exec
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full arg7.view f5 _ _ []).trans ?_
    exact left5_of tb hT fh ((View.readAt_full ..).trans hf1) (plane_read tb hT fh 0 _ rfl _) (plane_read tb hT fh 1 _ rfl _)
      (plane_read tb hT fh 2 _ rfl _) (plane_read tb hT fh 3 _ rfl _) ((View.readAt_full ..).trans hf2) ((View.readAt_full ..).trans hf3)
      ((View.readAt_full ..).trans hf4)
  isplitl [H6]
  · iexists _; isplitr
    swap; · iexact H6
    ipureintro
    refine (View.read_writes_full arg8.view f6 _ _ []).trans ?_
    exact left6_of tb hT fh ((View.readAt_full ..).trans hf1) (plane_read tb hT fh 0 _ rfl _) (plane_read tb hT fh 1 _ rfl _)
      (plane_read tb hT fh 2 _ rfl _) (plane_read tb hT fh 3 _ rfl _) ((View.readAt_full ..).trans hf2) ((View.readAt_full ..).trans hf3)
      ((View.readAt_full ..).trans hf4)
  isplitl [HS]; · iexists _; iexact HS
  isplitl [Hq]; · iexact Hq
  isplitl [Hh]; · iexact Hh
  iexists _; iexact HO

end Cert.CombineIdeal.Gather
-- ==== Proof.CombineIdealLaunch.lean ====
/- The launch of the combine kernel (`Cert.CombineIdeal`): what the pipeline finds, what the body leaves in the two outputs'
   blocks at each point, the run, and the frame. Everything holds whenever every position is a row of the experts'
   results (`Rows`). Besides its blocks the body holds its scratch buffer, its counter and the experts' results, which
   no window stages. -/
module

public import proofs.«01_k».proof.Proof.Gen.CombineIdeal.Frame
public import proofs.«01_k».proof.Proof.CombineIdealBody
public import Idealize.ShloMosaic.Lib.Pipeline.FrameBody
public import Idealize.ShloMosaic.Lib.Claim

@[expose] public section

set_option maxRecDepth 16384

noncomputable section

namespace Cert.CombineIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.CombineIdeal Cert.CombineIdeal.Gen Cert.CombineIdeal.Gather

variable {F : FTy → Type} [FloatOps F]
variable (m : (ℓ : Loc nD τ sig) → Buf (Elt F) ℓ) (ρ : Dev nD → PrngReg)

/-! ## What the region finds -/

/-- Every position is a row of the experts' results. -/
def Rows : Prop := ∀ (c : Dev nD) (i : S131072.Idx), (m ((c : Thread nD τ).loc main_arg1) i : BitVec 32).toNat < 139264

/-- So is every position of a point's block. -/
theorem Rows.inRange {m : (ℓ : Loc nD τ sig) → Buf (Elt F) ℓ} (h : Rows m) (c : Dev nD) (t : Fin cfg0.N) : InRange (F := F) (iblk m c 0 t) := fun i => by
  have e : V m c main_arg1 = m ((c : Thread nD τ).loc main_arg1) := V_main_arg1 m c
  show (V m c main_arg1 (((cfg0.win 0).blk t).view.emb i) : BitVec 32).toNat < 139264
  exact (congrArg (fun f : IVec S131072 32 => (f (((cfg0.win 0).blk t).view.emb i)).toNat) e).trans_lt (h c _)

set_option maxHeartbeats 800000 in
/-- `main` is its host operations and then the region. -/
theorem main_prefix (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds between points -/

/-- The body's one counter. -/
def osem0 : Fin 1 → SemLoc sig := fun j => (![dsem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : PropM F)
      = semVal ((c : Thread nD τ), dsem) 0 := by
  rw [Pipeline.ownSems0_eq_of_list c osem0 [0] (by decide) (by decide)]; rfl

/-- The experts' results. -/
def Hb : Finset (Ref sig .tc) := {main_arg0}
theorem Hb_sub : Hb ⊆ Pipeline.restRefs sig spec0 := by decide
theorem hbmPts_eq (c : Dev nD) :
    (bigSep Hb fun b => ((c : Thread nD τ).loc b) ↦{fullShare} V m c b : PropM F)
      = (hbM.view.loc (c : Thread nD τ) ↦{fullShare} (V m c main_arg0)) := by
  rw [BI.bigSep_eq_bigSepL_of_eq [main_arg0] (by decide) (by decide)]; rfl

theorem held_eq (c : Dev nD) :
    (Pipeline.ΦD osem0 spec0 Hb (V m) c : PropM F)
      = iprop((∃ f : S4x256x1024.Idx → Elt F .f32, scM.view.loc (c : Thread nD τ) ↦{fullShare} f) ∗ (∃ r, prngReg c r)
          ∗ semVal ((c : Thread nD τ), dsem) 0 ∗ (hbM.view.loc (c : Thread nD τ) ↦{fullShare} (V m c main_arg0))) := by
  rw [Pipeline.ΦD_eq, scopedRest0_eq, ownSems00_eq, hbmPts_eq]; rfl

/-! ## The proof data, the run and the frame -/

variable (hP : Rows m)

/-- What the outputs' staging buffers hold after point `t`. -/
def outA (c : Dev nD) (t : Fin cfg0.N) : Vec F S256x1024 .f32 :=
  left5 (iblk m c 0 t) (hP.inRange c t) (V m c main_arg0) (iblk m c 1 t) (iblk m c 2 t) (iblk m c 3 t) (iblk m c 4 t)
def outB (c : Dev nD) (t : Fin cfg0.N) : Vec F S256x1024 .bf16 :=
  left6 (iblk m c 0 t) (hP.inRange c t) (V m c main_arg0) (iblk m c 1 t) (iblk m c 2 t) (iblk m c 3 t) (iblk m c 4 t)

/-- The pipeline on core `c`: the arrays as the region finds them, each input's block left in place, the outputs' blocks
    at `outA` and `outB`; nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA m hP c t
    | ⟨6, _⟩ => outB m hP c t
  Φ _ := Pipeline.ΦD osem0 spec0 Hb (V m) c
  q _ := fullShare
  owed _ := 0

theorem A_eq (c : Dev nD) (w : Fin cfg0.W) : (dats m hP 0 c).A w = V m c (Pipeline.arrRef spec0 w) := by dsimp only [dats]

theorem after0_0 (c : Dev nD) (t : Fin cfg0.N) : (dats m hP 0 c).after 0 t = iblk m c 0 t := by dsimp only [dats]; try rfl
theorem after0_1 (c : Dev nD) (t : Fin cfg0.N) : (dats m hP 0 c).after 1 t = iblk m c 1 t := by dsimp only [dats]; try rfl
theorem after0_2 (c : Dev nD) (t : Fin cfg0.N) : (dats m hP 0 c).after 2 t = iblk m c 2 t := by dsimp only [dats]; try rfl
theorem after0_3 (c : Dev nD) (t : Fin cfg0.N) : (dats m hP 0 c).after 3 t = iblk m c 3 t := by dsimp only [dats]; try rfl
theorem after0_4 (c : Dev nD) (t : Fin cfg0.N) : (dats m hP 0 c).after 4 t = iblk m c 4 t := by dsimp only [dats]; try rfl
theorem after0_5 (c : Dev nD) (t : Fin cfg0.N) : (dats m hP 0 c).after 5 t = outA m hP c t := by dsimp only [dats]; try rfl
theorem after0_6 (c : Dev nD) (t : Fin cfg0.N) : (dats m hP 0 c).after 6 t = outB m hP c t := by dsimp only [dats]; try rfl

/-- Each input's staging buffer holds its block at every point. -/
theorem before0_0 (c : Dev nD) (t : Fin cfg0.N) (d) : (dats m hP 0 c).before 0 t d = iblk m c 0 t :=
  ((dats m hP 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hP 0 c).before 1 t d = iblk m c 1 t :=
  ((dats m hP 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hP 0 c).before 2 t d = iblk m c 2 t :=
  ((dats m hP 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hP 0 c).before 3 t d = iblk m c 3 t :=
  ((dats m hP 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hP 0 c).before 4 t d = iblk m c 4 t :=
  ((dats m hP 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- What the body is called with at point `t`, -/
def bodyPre (c : Dev nD) (t : Fin cfg0.N) : PropM F :=
  iprop((dats m hP 0 c).Φ t.castSucc ∗ (dats m hP 0 c).owesAt () t.castSucc
    ∗ (∃ d, owns (c : Thread nD τ) (st0_0 t) fullShare ((dats m hP 0 c).before 0 t d))
    ∗ (∃ d, owns (c : Thread nD τ) (st0_1 t) fullShare ((dats m hP 0 c).before 1 t d))
    ∗ (∃ d, owns (c : Thread nD τ) (st0_2 t) fullShare ((dats m hP 0 c).before 2 t d))
    ∗ (∃ d, owns (c : Thread nD τ) (st0_3 t) fullShare ((dats m hP 0 c).before 3 t d))
    ∗ (∃ d, owns (c : Thread nD τ) (st0_4 t) fullShare ((dats m hP 0 c).before 4 t d))
    ∗ (∃ d, owns (c : Thread nD τ) (st0_5 t) fullShare ((dats m hP 0 c).before 5 t d))
    ∗ (∃ d, owns (c : Thread nD τ) (st0_6 t) fullShare ((dats m hP 0 c).before 6 t d)))

/-- and what it returns. -/
def bodyPost (c : Dev nD) (t : Fin cfg0.N) : PropM F :=
  iprop((dats m hP 0 c).Φ t.succ ∗ (dats m hP 0 c).owesAt () t.succ
    ∗ owns (c : Thread nD τ) (st0_0 t) fullShare ((dats m hP 0 c).after 0 t)
    ∗ owns (c : Thread nD τ) (st0_1 t) fullShare ((dats m hP 0 c).after 1 t)
    ∗ owns (c : Thread nD τ) (st0_2 t) fullShare ((dats m hP 0 c).after 2 t)
    ∗ owns (c : Thread nD τ) (st0_3 t) fullShare ((dats m hP 0 c).after 3 t)
    ∗ owns (c : Thread nD τ) (st0_4 t) fullShare ((dats m hP 0 c).after 4 t)
    ∗ owns (c : Thread nD τ) (st0_5 t) fullShare ((dats m hP 0 c).after 5 t)
    ∗ owns (c : Thread nD τ) (st0_6 t) fullShare ((dats m hP 0 c).after 6 t))

/-- The body at any point: its inputs hold their blocks, so `body_run` applies. -/
theorem sound_body (c : Dev nD) (t : Fin cfg0.N) :
    bodyPre m hP c t ⊢ wp frame (wpE (defs₀ (F := F)) Variants.none c none) Set.univ (bodyAt0 t) (fun _ => bodyPost m hP c t) := by
  unfold bodyPre bodyPost bodyAt0
  simp only [before0_0, before0_1, before0_2, before0_3, before0_4]
  rw [show (dats m hP 0 c).Φ t.succ = (dats m hP 0 c).Φ t.castSucc from rfl,
    show (dats m hP 0 c).owesAt () t.succ = (dats m hP 0 c).owesAt () t.castSucc from rfl,
    after0_0, after0_1, after0_2, after0_3, after0_4, after0_5, after0_6]
  rw [show (dats m hP 0 c).Φ t.castSucc = Pipeline.ΦD osem0 spec0 Hb (V m) c from rfl, held_eq]
  unfold Dat.owesAt Pipeline.owesWithin
  rw [show (dats m hP 0 c).owed t.castSucc = 0 from rfl]
  unfold outA outB
  iintro ⟨⟨HS, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (hP.inRange c t) (V m c main_arg0) (iblk m c 1 t) (iblk m c 2 t) (iblk m c 3 t) (iblk m c 4 t) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  isplitl [Hq]; · iexact Hq
  isplitl [Hh]; · iexact Hh
  isplitl [HO]; · iexact HO
  iintro ⟨H0, H1, H2, H3, H4, H5, H6, HS, Hq, Hh, ⟨%W', HO⟩⟩
  isplitl [HS Hg Hq Hh]
  · isplitl [HS]; · iexact HS
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

-- the implicit arguments are found through plain definitions in a type
set_option backward.isDefEq.respectTransparency.types false in
/-- The run: every array ends at what the pipeline's data say, every other buffer as found, every counter at zero. -/
theorem run_main : θ_run defs (onTc (τ := τ) (main (F := F))) (s₀ m ρ) (fun r => Pipeline.FramePost cfgs (dats m hP) 0 (V m) r ∧ r.2.sem = fun _ => 0) :=
  Pipeline.θ_run_frame_dma (Q' := _) cfgs (dats m hP) (0 : Fin 1) launch0 osem0 defs₀ Variants.none ownSemFacts0 Hb Hb_sub m ρ main
    (hbody := fun c => (body_obligation m hP c).loose) (hshare := fun c => (dats m hP 0 c).share_full fun _ => rfl)
    (howed := fun _ _ => rfl) (V := V m) (hmain := main_prefix m Variants.none) (hA := A_eq m hP) (hin := fun _ => .rfl) (hout := fun _ => .rfl)

/-- What a final state says of the arguments. -/
theorem kept_of {r} (h : Pipeline.FramePost cfgs (dats m hP) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).1 0).trans (((dats m hP 0 c).arrAt_in 0 rfl _).trans ((A_eq m hP c 0).trans (V_main_arg1 m c))),
      ((h c).1 1).trans (((dats m hP 0 c).arrAt_in 1 rfl _).trans ((A_eq m hP c 1).trans (V_main_arg2 m c))),
      ((h c).1 2).trans (((dats m hP 0 c).arrAt_in 2 rfl _).trans ((A_eq m hP c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

include hP in
/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨kept_of m hP h.1, h.2⟩) (run_main m ρ hP)

end Cert.CombineIdeal.Launch

end
-- ==== Proof.CombineRows.lean ====
/-
  What the precondition says: every position is a row of the experts' results.
-/
module

public import proofs.«01_k».proof.Defs
public import proofs.«01_k».proof.Proof.Gen.Pre_rows_ok
public import proofs.«01_k».proof.Proof.CombineLaunch
public import proofs.«01_k».proof.Proof.CombineIdealLaunch
public import Idealize.ShloMosaic.Lib.ReduceAll

@[expose] public section

namespace Cert.Proof.Combine

open Idealize.ShloMosaic Idealize.ShloMosaic.TcCoe

attribute [local instance] Cert.Pre_rows_ok.Gen.facts

instance : Subsingleton Cert.Pre_rows_ok.S_.Idx := ⟨fun a b => funext fun d => d.elim0⟩

variable {F : FTy → Type} [FloatOps F]

/-- The precondition's words, decoded. -/
theorem below (a0 : FVec F Cert.Pre_rows_ok.S139264x1024 .f32) (a1 : IVec Cert.Pre_rows_ok.S131072 32) (a2 : FVec F Cert.Pre_rows_ok.S32768x128 .f32)
    (a3 : FVec F Cert.Pre_rows_ok.S32768x1024 .f32) (a4 a5 : FVec F Cert.Pre_rows_ok.S1024 .f32) (j : Cert.Pre_rows_ok.S_.Idx)
    (h : Cert.Pre_rows_ok.fn (F := F) a0 a1 a2 a3 a4 a5 j = 1#1) (i : Cert.Pre_rows_ok.S131072.Idx) : (a1 i).toNat < 139264 := by
  unfold Cert.Pre_rows_ok.fn at h
  obtain ⟨h1, h2⟩ := IntOp.andi_eq_one.1 h
  have l : (0#32 : BitVec 32).toInt ≤ (a1 i).toInt := IntOp.cmpi_sge.1 (Host.reduce_andi_all _ _ _ _ j h1 i)
  have u : (a1 i).toInt < (139264#32 : BitVec 32).toInt := IntOp.cmpi_slt.1 (Host.reduce_andi_all _ _ _ _ j h2 i)
  rw [show (0#32 : BitVec 32).toInt = 0 from rfl] at l
  rw [show (139264#32 : BitVec 32).toInt = 139264 from rfl] at u
  rw [BitVec.toInt_eq_toNat_cond] at l u
  have := (a1 i).isLt
  split at l <;> omega

/-- So both kernels' positions are in range. -/
theorem rows_K (m : (ℓ : Loc Cert.Combine.nD Cert.Combine.τ Cert.Combine.sig) → Buf (Elt Bits) ℓ) (h : Cert.Pre_Combine m) : Cert.Combine.Launch.Rows m :=
  fun c => below _ _ _ _ _ _ (fun d => d.elim0) (congrFun (h c) (fun d => d.elim0))
theorem rows_KI (m : (ℓ : Loc Cert.CombineIdeal.nD Cert.CombineIdeal.τ Cert.CombineIdeal.sig) → Buf (Elt Ideal) ℓ) (h : Cert.Pre_CombineIdeal m) : Cert.CombineIdeal.Launch.Rows m :=
  fun c => below _ _ _ _ _ _ (fun d => d.elim0) (congrFun (h c) (fun d => d.elim0))

end Cert.Proof.Combine
-- ==== Proof.CombineValue.lean ====
/-
  The combine's value: each token's four expert rows weighed by its gates, added to the scaled stream and normed, in the
  kernel and in the reference; and the frames.
-/
module

public import proofs.«01_k».proof.Proof.Gen.CombineRefIdeal.Run
public import proofs.«01_k».proof.Proof.Gen.CombineRefIdeal.Read
public import proofs.«01_k».proof.Proof.Rows
public import proofs.«01_k».proof.Proof.CombineRows
public import Idealize.ShloMosaic.Lib.ValueIdx

@[expose] public section

set_option maxRecDepth 16384

noncomputable section

namespace Cert.Proof.Combine

open Cert.CombineIdeal Cert.CombineIdeal.Gen Cert.CombineIdeal.Gather Cert.CombineIdeal.Launch Idealize.ShloMosaic Idealize.ShloMosaic.TcCoe Idealize.SL.Sem
open Cert.Proof.Rows

/-! ## The body's values -/

theorem pay3_apply (x1 : Vec Ideal S256x128 .f32) (p0 p1 p2 p3 : Vec Ideal S1x256x1024 .f32) (y : Fin 256) (j : Fin 1024) :
    k0_pay3 x1 p0 p1 p2 p3 (ix2 y j)
      = x1 (ix2 y (0 : Fin 128)) * p0 (ix3 0 y j) + x1 (ix2 y (1 : Fin 128)) * p1 (ix3 0 y j)
        + x1 (ix2 y (2 : Fin 128)) * p2 (ix3 0 y j) + x1 (ix2 y (3 : Fin 128)) * p3 (ix3 0 y j) := by
  pointwise [k0_pay3]

theorem pay1_apply (s x2 : Vec Ideal S256x1024 .f32) (g b : Vec Ideal S1x1024 .f32) (y : Fin 256) (j : Fin 1024) :
    k0_pay1 s (k0_pay4 x2) g b (ix2 y j)
      = lnorm (fun k => resid (x2 (ix2 y k)) (s (ix2 y k))) (fun k => g (ix2 0 k)) (fun k => b (ix2 0 k)) j := by
  pointwise [k0_pay1, k0_pay4, lnorm, mean, resid]

/-! ## The closed form -/

/-- The row a position names. -/
def rowAt (w : BitVec 32) : Fin 139264 := ⟨min w.toNat (139264 - 1), by omega⟩
/-- The entry of the flat positions that holds choice `k` of token `r`. -/
def slot (r : Fin 32768) (k : Fin 4) : Fin 131072 := ⟨r.val * 4 + k.val, by omega⟩

section Reference

open Cert.CombineRefIdeal Cert.CombineRefIdeal.Read

variable (ys : Vec Ideal Cert.CombineRefIdeal.S139264x1024 .f32) (pos : IVec Cert.CombineRefIdeal.S131072 32)
  (gates : Vec Ideal Cert.CombineRefIdeal.S32768x128 .f32) (x : Vec Ideal Cert.CombineRefIdeal.S32768x1024 .f32)
  (g b : Vec Ideal Cert.CombineRefIdeal.S1024 .f32)

/-- One choice of one token, weighed. -/
def term (r : Fin 32768) (k : Fin 4) (j : Fin 1024) : EReal :=
  gates (ix2 r (⟨k.val, by omega⟩ : Fin 128)) * ys (ix2 (rowAt (pos (ix1 (slot r k)))) j)
/-- Either result as a function of the arguments. -/
def resAt (r : Fin 32768) (j : Fin 1024) : EReal :=
  lnorm (fun c => resid (x (ix2 r c)) (∑ k, term ys pos gates r k c)) (fun c => g (ix1 c)) (fun c => b (ix1 c)) j

/-- A word below the number of rows is not negative. -/
theorem sel (v w : BitVec 32) (hv : v.toNat < 139264) : Scalar.select (IntOp.cmpi .slt v 0#32) w v = v := by
  have h : ¬ IntOp.cmpi .slt v 0#32 = 1#1 := by
    rw [IntOp.cmpi_slt, BitVec.toInt_eq_toNat_cond]
    show ¬ _ < (0 : ℤ)
    split <;> omega
  unfold Scalar.select
  exact if_neg h

variable (hp : ∀ i, (pos i).toNat < 139264) (r : Fin 32768) (k : Fin 4) (j : Fin 1024)

theorem v0_eq : val_main_v0 (F := Ideal) pos (ix2 r k) = pos (ix1 (slot r k)) := by
  rw [val_main_v0_apply]
  refine congrArg pos (funext fun a => Fin.ext ?_)
  match a with
  | ⟨0, _⟩ => rfl

include hp in
theorem v6_eq : val_main_v6 (F := Ideal) pos (ix3 r k (0 : Fin 1)) = pos (ix1 (slot r k)) := by
  rw [← v0_eq pos r k]
  pointwise [val_main_v6, val_main_v5, val_main_v4, val_main_v3, val_main_v2, val_main_v1, val_main_c, val_main_c_0]
  exact sel _ _ (by rw [v0_eq]; exact hp _)

/-- The gather of the reference, read at an index. -/
theorem gather_eq (idx : IVec Cert.CombineRefIdeal.S32768x4x1 32) :
    Host.gather Cert.CombineRefIdeal.gather_S139264x1024_S32768x4x1_S32768x4x1024_2_0_n_n_0_2_11024 ys idx (ix3 r k j)
      = ys (ix2 (⟨min (idx (ix3 r k (0 : Fin 1))).toInt.toNat (139264 - 1), by omega⟩ : Fin 139264) j) := by
  unfold Host.gather
  congr 1
  funext a
  refine Fin.ext ?_
  show Cert.CombineRefIdeal.gather_S139264x1024_S32768x4x1_S32768x4x1024_2_0_n_n_0_2_11024.start (ix3 r k j) idx a
      + Cert.CombineRefIdeal.gather_S139264x1024_S32768x4x1_S32768x4x1024_2_0_n_n_0_2_11024.batchCoord (ix3 r k j) a
      + Cert.CombineRefIdeal.gather_S139264x1024_S32768x4x1_S32768x4x1024_2_0_n_n_0_2_11024.offCoord (ix3 r k j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.CombineRefIdeal.gather_S139264x1024_S32768x4x1_S32768x4x1024_2_0_n_n_0_2_11024.startIndexMap from List.mem_singleton.mpr rfl)]
    have hsi : Cert.CombineRefIdeal.gather_S139264x1024_S32768x4x1_S32768x4x1024_2_0_n_n_0_2_11024.siIdx (ix3 r k j)
        ⟨List.idxOf (0 : Fin 2) Cert.CombineRefIdeal.gather_S139264x1024_S32768x4x1_S32768x4x1024_2_0_n_n_0_2_11024.startIndexMap,
          List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ Cert.CombineRefIdeal.gather_S139264x1024_S32768x4x1_S32768x4x1024_2_0_n_n_0_2_11024.startIndexMap from
      fun h => absurd (List.mem_singleton.mp h) (by decide))]
    simp only [Nat.zero_add, Nat.add_zero]
    unfold GatherDims.offCoord
    rfl

theorem clamp {v w : BitVec 32} (e : v = w) (hw : w.toNat < 139264) (h : min v.toInt.toNat (139264 - 1) < 139264) :
    (⟨min v.toInt.toNat (139264 - 1), h⟩ : Fin 139264) = rowAt w := by
  subst e
  refine Fin.ext ?_
  show min v.toInt.toNat (139264 - 1) = min v.toNat (139264 - 1)
  rw [BitVec.toInt_eq_toNat_cond]
  split <;> omega

include hp in
theorem v7_eq : val_main_v7 (F := Ideal) ys pos (ix3 r k j) = ys (ix2 (rowAt (pos (ix1 (slot r k)))) j) := by
  unfold val_main_v7
  rw [gather_eq, clamp (v6_eq pos hp r k) (hp _)]

include hp in
theorem v11_eq : val_main_v11 (F := Ideal) ys pos gates (ix3 r k j) = term ys pos gates r k j := by
  pointwise [val_main_v11, val_main_v10, val_main_v9, val_main_v8]
  rw [v7_eq ys pos hp]
  rfl

include hp in
theorem v12_eq : val_main_v12 (F := Ideal) ys pos gates (ix2 r j) = ∑ k, term ys pos gates r k j := by
  rw [val_main_v12_apply, val_main_cst_apply]
  refine (congrArg (· + _) Ideal.ofBits_zero_f32).trans ((zero_add _).trans (Finset.sum_congr rfl fun k _ => ?_))
  refine Eq.trans ?_ (v11_eq ys pos gates hp r k j)
  refine congrArg (val_main_v11 (F := Ideal) ys pos gates) (funext fun a => ?_)
  match a with
  | ⟨0, _⟩ => rfl
  | ⟨1, _⟩ => rfl
  | ⟨2, _⟩ => rfl

include hp in
theorem ref_eq : val_main_v39 (F := Ideal) ys pos gates x g b (ix2 r j) = resAt ys pos gates x g b r j := by
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_cst_1, val_main_cst_2, val_main_cst_3, val_main_cst_4, val_main_cst_5, val_main_cst_6, resAt, lnorm, mean, resid, v12_eq ys pos gates hp]

end Reference

/-! ## The kernel's blocks -/

variable (m : (ℓ : Loc nD τ sig) → Buf (Elt Ideal) ℓ) (ρ : Dev nD → PrngReg)

/-- The windows' block indices: the point on the rows, and the vectors' fixed block. -/
theorem idx : ∀ t : Fin cfg0.N, win0_0.index t (0 : Fin 1) = t.val
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The token that point `t` has at row `y` of its blocks. -/
def rowOf (t : Fin cfg0.N) (y : Fin 256) : Fin 32768 :=
  ⟨t.val * 256 + y.val, by have h : t.val < 128 := t.isLt.trans_eq N_0; omega⟩

theorem eq_ix2_of {a b : Nat} (i : (⟨2, ![a, b]⟩ : Shape).Idx) (p : Fin a) (q : Fin b) (h0 : (i 0).val = p.val)
    (h1 : (i 1).val = q.val) : i = ix2 p q := by
  rw [eq_ix2 i]
  exact congrArg₂ ix2 (Fin.ext h0) (Fin.ext h1)

variable (c : Dev nD)

theorem V_v0 (k : Fin 1024) : V m c main_v0 (ix2 (0 : Fin 1) k) = m ((c : Thread nD τ).loc main_arg4) (ix1 k) := by
  show StableHlo.after hostOps0 (fun b => m (c, b)) main_v0 (ix2 (0 : Fin 1) k) = _
  after_results
  pointwise
theorem V_v1 (k : Fin 1024) : V m c main_v1 (ix2 (0 : Fin 1) k) = m ((c : Thread nD τ).loc main_arg5) (ix1 k) := by
  show StableHlo.after hostOps0 (fun b => m (c, b)) main_v1 (ix2 (0 : Fin 1) k) = _
  after_results
  pointwise

section Blocks
variable (t : Fin cfg0.N)

theorem blk0 (e : S1024.Idx) (y : Fin 256) (k : Fin 4) (he : (e 0).val = 4 * y.val + k.val) :
    iblk m c 0 t e = m ((c : Thread nD τ).loc main_arg1) (ix1 (slot (rowOf t y) k)) := by
  refine (congrArg (V m c main_arg1) (funext fun a => Fin.ext ?_)).trans (congrFun (V_main_arg1 m c) _)
  match a with
  | ⟨0, _⟩ =>
    show win0_0.index t (0 : Fin 1) * 1024 + 1 * (e 0).val = (t.val * 256 + y.val) * 4 + k.val
    rw [(idx t).1, he]
    omega
theorem blk1 (y : Fin 256) (k : Fin 128) : iblk m c 1 t (ix2 y k) = m ((c : Thread nD τ).loc main_arg2) (ix2 (rowOf t y) k) :=
  (congrArg (V m c main_arg2) (eq_ix2_of _ _ _
    (by show win0_1.index t (0 : Fin 2) * 256 + 1 * y.val = t.val * 256 + y.val; rw [(idx t).2.1.1]; omega)
    (by show win0_1.index t (1 : Fin 2) * 128 + 1 * k.val = k.val; rw [(idx t).2.1.2]; omega))).trans (congrFun (V_main_arg2 m c) _)
theorem blk2 (y : Fin 256) (k : Fin 1024) : iblk m c 2 t (ix2 y k) = m ((c : Thread nD τ).loc main_arg3) (ix2 (rowOf t y) k) :=
  (congrArg (V m c main_arg3) (eq_ix2_of _ _ _
    (by show win0_2.index t (0 : Fin 2) * 256 + 1 * y.val = t.val * 256 + y.val; rw [(idx t).2.2.1.1]; omega)
    (by show win0_2.index t (1 : Fin 2) * 1024 + 1 * k.val = k.val; rw [(idx t).2.2.1.2]; omega))).trans (congrFun (V_main_arg3 m c) _)
theorem blk3 (k : Fin 1024) : iblk m c 3 t (ix2 (0 : Fin 1) k) = m ((c : Thread nD τ).loc main_arg4) (ix1 k) :=
  (congrArg (V m c main_v0) (eq_ix2_of _ _ _
    (by show win0_3.index t (0 : Fin 2) * 1 + 1 * 0 = 0; rw [(idx t).2.2.2.1.1])
    (by show win0_3.index t (1 : Fin 2) * 1024 + 1 * k.val = k.val; rw [(idx t).2.2.2.1.2]; omega))).trans (V_v0 m c k)
theorem blk4 (k : Fin 1024) : iblk m c 4 t (ix2 (0 : Fin 1) k) = m ((c : Thread nD τ).loc main_arg5) (ix1 k) :=
  (congrArg (V m c main_v1) (eq_ix2_of _ _ _
    (by show win0_4.index t (0 : Fin 2) * 1 + 1 * 0 = 0; rw [(idx t).2.2.2.2.1.1])
    (by show win0_4.index t (1 : Fin 2) * 1024 + 1 * k.val = k.val; rw [(idx t).2.2.2.2.1.2]; omega))).trans (V_v1 m c k)
theorem emb5 (y : Fin 256) (k : Fin 1024) : ((cfg0.win 5).blk t).view.emb (ix2 y k) = ix2 (rowOf t y) k :=
  eq_ix2_of _ _ _
    (by show win0_5.index t (0 : Fin 2) * 256 + 1 * y.val = t.val * 256 + y.val; rw [(idx t).2.2.2.2.2.1.1]; omega)
    (by show win0_5.index t (1 : Fin 2) * 1024 + 1 * k.val = k.val; rw [(idx t).2.2.2.2.2.1.2]; omega)
theorem emb6 (y : Fin 256) (k : Fin 1024) : ((cfg0.win 6).blk t).view.emb (ix2 y k) = ix2 (rowOf t y) k :=
  eq_ix2_of _ _ _
    (by show win0_6.index t (0 : Fin 2) * 256 + 1 * y.val = t.val * 256 + y.val; rw [(idx t).2.2.2.2.2.2.1]; omega)
    (by show win0_6.index t (1 : Fin 2) * 1024 + 1 * k.val = k.val; rw [(idx t).2.2.2.2.2.2.2]; omega)

end Blocks

variable (hP : Rows m)

/-- A gathered row is the row of the experts' results that its position names. -/
theorem plane_apply (t : Fin cfg0.N) (k : Fin 4) (y : Fin 256) (j : Fin 1024) :
    plane (F := Ideal) (iblk m c 0 t) (hP.inRange c t) (V m c main_arg0) k (ix3 (0 : Fin 1) y j)
      = m ((c : Thread nD τ).loc main_arg0) (ix2 (rowAt (m ((c : Thread nD τ).loc main_arg1) (ix1 (slot (rowOf t y) k)))) j) := by
  unfold plane landed
  refine (congrFun (V_main_arg0 m c) _).trans (congrArg (m ((c : Thread nD τ).loc main_arg0)) (eq_ix2_of _ _ _ ?_ rfl))
  have hr := hP c (ix1 (slot (rowOf t y) k))
  show BitVec.toNat (iblk m c 0 t (entry _)) = min (BitVec.toNat (m ((c : Thread nD τ).loc main_arg1) (ix1 (slot (rowOf t y) k)))) (139264 - 1)
  rw [blk0 m c t _ y k rfl]
  omega

/-! ## The two result arrays -/

/-- Either result array of the launch. -/
def G : S32768x1024.Idx → EReal := fun i =>
  resAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- The weighed rows of a point's token are the closed form's terms. -/
theorem sum_eq (t : Fin cfg0.N) (y : Fin 256) (j : Fin 1024) :
    sumOf (F := Ideal) (iblk m c 0 t) (hP.inRange c t) (V m c main_arg0) (iblk m c 1 t) (ix2 y j)
      = ∑ k, term (m ((c : Thread nD τ).loc main_arg0)) (m ((c : Thread nD τ).loc main_arg1)) (m ((c : Thread nD τ).loc main_arg2)) (rowOf t y) k j := by
  unfold sumOf
  rw [pay3_apply, Fin.sum_univ_four]
  iterate 4 rw [plane_apply m c hP]
  iterate 4 rw [blk1]
  rfl

/-- A point's block of the first result. -/
theorem block_eq (t : Fin cfg0.N) (y : Fin 256) (j : Fin 1024) : outA m hP c t (ix2 y j) = G m c (ix2 (rowOf t y) j) := by
  unfold outA left5
  rw [pay1_apply]
  unfold G resAt
  simp only [sum_eq m c hP, blk2, blk3, blk4]
  rfl

/-- The second result's block is the first's: at the extended reals a change of format is the identity. -/
theorem outB_eq (t : Fin cfg0.N) (i : S256x1024.Idx) : outB m hP c t i = outA m hP c t i := by
  unfold outA outB left5 left6 k0_pay2
  rfl

theorem flushed5_eq (t : Fin cfg0.N) : (dats m hP 0 c).flushed 5 t = ((cfg0.win 5).blk t).view.read (Elt Ideal) (G m c) := by
  show (cfg0.win 5).cut (grid0.coords t) ((dats m hP 0 c).after 5 t) = _
  rw [after0_5]
  funext i
  obtain ⟨y, j, rfl⟩ : ∃ (y : Fin 256) (j : Fin 1024), i = ix2 y j := ⟨i 0, i 1, eq_ix2 i⟩
  refine (block_eq m c hP t y j).trans ?_
  show _ = G m c (((cfg0.win 5).blk t).view.emb (ix2 y j))
  rw [emb5]

theorem flushed6_eq (t : Fin cfg0.N) : (dats m hP 0 c).flushed 6 t = ((cfg0.win 6).blk t).view.read (Elt Ideal) (G m c) := by
  show (cfg0.win 6).cut (grid0.coords t) ((dats m hP 0 c).after 6 t) = _
  rw [after0_6]
  funext i
  obtain ⟨y, j, rfl⟩ : ∃ (y : Fin 256) (j : Fin 1024), i = ix2 y j := ⟨i 0, i 1, eq_ix2 i⟩
  refine (outB_eq m c hP t (ix2 y j)).trans ((block_eq m c hP t y j).trans ?_)
  show _ = G m c (((cfg0.win 6).blk t).view.emb (ix2 y j))
  rw [emb6]

/-- Every token is some point's. -/
theorem exists_row (i : S32768x1024.Idx) : ∃ (t : Fin cfg0.N) (y : Fin 256) (j : Fin 1024), i = ix2 (rowOf t y) j := by
  have h0 : (i 0).val < 32768 := (i 0).isLt
  refine ⟨⟨(i 0).val / 256, by rw [show cfg0.N = 128 from N_0]; omega⟩, ⟨(i 0).val % 256, by omega⟩, i 1, ?_⟩
  refine eq_ix2_of _ _ _ ?_ rfl
  show (i 0).val = (i 0).val / 256 * 256 + (i 0).val % 256
  omega

theorem final5 : (dats m hP 0 c).arrAt 5 cfg0.N = G m c :=
  (dats m hP 0 c).arrAt_eq_of_cover 5 (G m c) (fun t _ => flushed5_eq m c hP t) fun i => by
    obtain ⟨t, y, j, rfl⟩ := exists_row i
    refine ⟨t, flush0_5 _, ?_⟩
    have h := ((cfg0.win 5).blk t).view.emb_mem_set (ix2 y j)
    rwa [emb5] at h

theorem final6 : (dats m hP 0 c).arrAt 6 cfg0.N = G m c :=
  (dats m hP 0 c).arrAt_eq_of_cover 6 (G m c) (fun t _ => flushed6_eq m c hP t) fun i => by
    obtain ⟨t, y, j, rfl⟩ := exists_row i
    refine ⟨t, flush0_6 _, ?_⟩
    have h := ((cfg0.win 6).blk t).view.emb_mem_set (ix2 y j)
    rwa [emb6] at h

/-! ## The claims -/

theorem frame_ref : Cert.quiescent_CombineRefIdeal := fun m ρ _ =>
  (θ_run Cert.CombineRefIdeal.defs _ _).mono (fun r h => ⟨fun c => (h c).2.2,
      Idealize.ShloMosaic.sem_eq_zero_of_no_sems (by decide) r.2⟩)
    (Cert.CombineRefIdeal.Value.run (F := Ideal) m ρ)

attribute [local instance] Cert.Pre_rows_ok.Gen.facts

theorem frame_ref_pre : Cert.quiescent_CombineRefIdeal_pre_rows_ok := fun m ρ _ => frame_ref m ρ trivial

theorem frame_K : Cert.quiescent_Combine := fun m ρ h => Cert.Combine.Launch.frame m ρ (rows_K m h)
theorem frame_KI : Cert.quiescent_CombineIdeal := fun m ρ h => Cert.CombineIdeal.Launch.frame m ρ (rows_KI m h)

include hP in
/-- The kernel's run ends with both result arrays in place and the arguments as they were. -/
theorem run_kernel : θ_run defs (onTc (τ := τ) (main (F := Ideal))) ⟨m, fun _ => 0, ρ⟩ fun r => ∀ c : Dev nD,
      r.2.mem ((c.tc : Thread nD τ).loc main_v2_0) = G m c
      ∧ r.2.mem ((c.tc : Thread nD τ).loc main_v2_1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 5).trans (final5 m c hP), ((h.1 c).1 6).trans (final6 m c hP), kept_of m hP h.1 c⟩) (run_main m ρ hP)

/-- From memories that agree on the arguments the kernel and the reference end with the same two results. -/
theorem algebraic : Cert.algebraic_CombineIdeal_CombineRefIdeal := fun m ρ m' ρ' hp hag =>
  ⟨fun c => G m c, fun c => G m c, run_kernel m ρ (rows_KI m hp),
    (θ_run Cert.CombineRefIdeal.defs _ _).mono (fun r h c => by
        obtain ⟨h0, h1, h2, h3, h4, h5⟩ := hag c
        refine ⟨(h c).1.trans ((Cert.CombineRefIdeal.Read.val_main_v39_eq _ _).trans ?_),
          (h c).2.1.trans ((Cert.CombineRefIdeal.Read.val_main_v40_eq _ _).trans ?_), (h c).2.2⟩
        · rw [h0, h1, h2, h3, h4, h5]
          refine funext fun i => ?_
          rw [eq_ix2 i]
          exact ref_eq _ _ _ _ _ _ (rows_KI m hp c) _ _
        · rw [h0, h1, h2, h3, h4, h5]
          refine funext fun i => ?_
          rw [eq_ix2 i]
          exact ref_eq _ _ _ _ _ _ (rows_KI m hp c) _ _)
      (Cert.CombineRefIdeal.Value.run (F := Ideal) m' ρ')⟩

end Cert.Proof.Combine
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.AttnIdeal.Value
public import proofs.«01_k».proof.Proof.Gen.ProjIdeal.Value
public import proofs.«01_k».proof.Proof.Gen.MergeIdeal.Value
public import proofs.«01_k».proof.Proof.Gen.AttnRefIdeal.Run
public import proofs.«01_k».proof.Proof.Gen.AttnRefIdeal.Read
public import proofs.«01_k».proof.Proof.Gen.ProjRefIdeal.Run
public import proofs.«01_k».proof.Proof.Gen.ProjRefIdeal.Read
public import proofs.«01_k».proof.Proof.Gen.MergeRefIdeal.Run
public import proofs.«01_k».proof.Proof.Gen.MergeRefIdeal.Read
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryIdeal.Value
public import proofs.«01_k».proof.Proof.Gen.EntryRefIdeal
public import proofs.«01_k».proof.Proof.Gen.EntryRefIdeal.Run
public import proofs.«01_k».proof.Proof.Gen.EntryRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_tables_ok
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Pre_rows_ok
public import Idealize.ShloMosaic.Adequacy
public import Idealize.ShloMosaic.Init
public import proofs.«01_k».proof.Proof.AttnValue
public import proofs.«01_k».proof.Proof.ProjValue
public import proofs.«01_k».proof.Proof.MergeValue
public import proofs.«01_k».proof.Proof.EntryValue
public import proofs.«01_k».proof.Proof.KvValue
public import proofs.«01_k».proof.Proof.ExpertsValue
public import proofs.«01_k».proof.Proof.CombineValue

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Entry.Gen.facts, Cert.EntryIdeal.Gen.facts, Cert.EntryRefIdeal.Gen.facts, Cert.Kv.Gen.facts, Cert.KvIdeal.Gen.facts, Cert.KvRefIdeal.Gen.facts, Cert.Experts.Gen.facts, Cert.ExpertsIdeal.Gen.facts, Cert.ExpertsRefIdeal.Gen.facts, Cert.Combine.Gen.facts, Cert.CombineIdeal.Gen.facts, Cert.CombineRefIdeal.Gen.facts, Cert.Pre_tables_ok.Gen.facts, Cert.Pre_rows_ok.Gen.facts,
  fun m ρ _ => Cert.Attn.Gen.frame m ρ, fun m ρ _ => Cert.AttnIdeal.Gen.frame m ρ, Cert.Proof.Attn.frame_ref,
  fun m ρ _ => Cert.Proj.Gen.frame m ρ, fun m ρ _ => Cert.ProjIdeal.Gen.frame m ρ, Cert.Proof.Proj.frame_ref,
  fun m ρ _ => Cert.Merge.Gen.frame m ρ, fun m ρ _ => Cert.MergeIdeal.Gen.frame m ρ, Cert.Proof.Merge.frame_ref,
  fun m ρ _ => Cert.Entry.Gen.frame m ρ, fun m ρ _ => Cert.EntryIdeal.Gen.frame m ρ, Cert.Proof.Entry.frame_ref,
  fun m ρ _ => Cert.Kv.Gen.frame m ρ, fun m ρ _ => Cert.KvIdeal.Gen.frame m ρ, Cert.Proof.Kv.frame_ref,
  Cert.Proof.Experts.frame_K, Cert.Proof.Experts.frame_KI, Cert.Proof.Experts.frame_ref, Cert.Proof.Experts.frame_ref_pre,
  Cert.Proof.Combine.frame_K, Cert.Proof.Combine.frame_KI, Cert.Proof.Combine.frame_ref, Cert.Proof.Combine.frame_ref_pre,
  trivial, Cert.Proof.Attn.algebraic,
  trivial, Cert.Proof.Proj.algebraic,
  trivial, Cert.Proof.Merge.algebraic,
  trivial, Cert.Proof.Entry.algebraic,
  trivial, Cert.Proof.Kv.algebraic,
  trivial, Cert.Proof.Experts.algebraic,
  trivial, Cert.Proof.Combine.algebraic⟩

end Cert.Proof

end
